-- ==== Defs.lean ====
def Pre_Kernel [hPre_words_in_range : Cert.Pre_words_in_range.Facts] (m : (ℓ : Loc Cert.Kernel.nD Cert.Kernel.τ Cert.Kernel.sig) → Buf (Elt Bits) ℓ) : Prop :=
  ∀ c : Dev Cert.Kernel.nD,
    (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_words_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_words_in_range : Cert.Pre_words_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_words_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_KernelIdeal_block_sparse [hPre_block_sparse : Cert.Pre_block_sparse.Facts] (m : (ℓ : Loc Cert.KernelIdeal.nD Cert.KernelIdeal.τ Cert.KernelIdeal.sig) → Buf (Elt Ideal) ℓ) : Prop :=
  ∀ c : Dev Cert.KernelIdeal.nD,
    (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_block_sparse.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_block_sparse [hPre_block_sparse : Cert.Pre_block_sparse.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_block_sparse.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] [hPre_words_in_range : Cert.Pre_words_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_words_in_range : Cert.Pre_words_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_block_sparse [hKernelIdeal : Cert.KernelIdeal.Facts] [hPre_block_sparse : Cert.Pre_block_sparse.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_block_sparse m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_block_sparse [hReferenceIdeal : Cert.ReferenceIdeal.Facts] [hPre_block_sparse : Cert.Pre_block_sparse.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_block_sparse m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_block_sparse [hKernelIdeal : Cert.KernelIdeal.Facts] [hReferenceIdeal : Cert.ReferenceIdeal.Facts] [hPre_block_sparse : Cert.Pre_block_sparse.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_block_sparse m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_words_in_range : Cert.Pre_words_in_range.Facts) (hPre_block_sparse : Cert.Pre_block_sparse.Facts),
    quiescent_Kernel (hKernel := hKernel) (hPre_words_in_range := hPre_words_in_range)
    ∧ quiescent_KernelIdeal (hKernelIdeal := hKernelIdeal) (hPre_words_in_range := hPre_words_in_range)
    ∧ quiescent_KernelIdeal_pre_block_sparse (hKernelIdeal := hKernelIdeal) (hPre_block_sparse := hPre_block_sparse)
    ∧ quiescent_ReferenceIdeal (hReferenceIdeal := hReferenceIdeal)
    ∧ quiescent_ReferenceIdeal_pre_block_sparse (hReferenceIdeal := hReferenceIdeal) (hPre_block_sparse := hPre_block_sparse)
    ∧ preserves_Kernel_KernelIdeal
    ∧ algebraic_KernelIdeal_ReferenceIdeal_pre_block_sparse (hKernelIdeal := hKernelIdeal) (hReferenceIdeal := hReferenceIdeal) (hPre_block_sparse := hPre_block_sparse)
-- ==== Pre_block_sparse.lean ====
abbrev S2x3072x14336 : Shape := ⟨3, ![2, 3072, 14336]⟩
abbrev S33 : Shape := ⟨1, ![33]⟩
abbrev S717 : Shape := ⟨1, ![717]⟩
abbrev S717x128x128 : Shape := ⟨3, ![717, 128, 128]⟩
abbrev S32 : Shape := ⟨1, ![32]⟩
abbrev S32x1x1 : Shape := ⟨3, ![32, 1, 1]⟩
abbrev S1x717x1 : Shape := ⟨3, ![1, 717, 1]⟩
abbrev S1x1x717 : Shape := ⟨3, ![1, 1, 717]⟩
abbrev S32x717x1 : Shape := ⟨3, ![32, 717, 1]⟩
abbrev S1x717x717 : Shape := ⟨3, ![1, 717, 717]⟩
abbrev S32x717x717 : Shape := ⟨3, ![32, 717, 717]⟩
abbrev S32x1x717 : Shape := ⟨3, ![32, 1, 717]⟩
abbrev S_ : Shape := ⟨0, ![]⟩
abbrev S1 : Shape := ⟨1, ![1]⟩

class Facts : Prop where
  slices_S33_S32_0 : S33.Slices ![0] S32
  bcast_S32_S32x1x1_0 : S32.BroadcastsInDim S32x1x1 (![0] : Fin 1 → Fin S32x1x1.rank)
  slices_S33_S32_1 : S33.Slices ![1] S32
  bcast_S717_S1x717x1_1 : S717.BroadcastsInDim S1x717x1 (![1] : Fin 1 → Fin S1x717x1.rank)
  bcast_S717_S1x1x717_2 : S717.BroadcastsInDim S1x1x717 (![2] : Fin 1 → Fin S1x1x717.rank)
  bcast_S32x1x1_S32x717x1_0_1_2 : S32x1x1.BroadcastsInDim S32x717x1 (![0, 1, 2] : Fin 3 → Fin S32x717x1.rank)
  bcast_S1x717x1_S32x717x1_0_1_2 : S1x717x1.BroadcastsInDim S32x717x1 (![0, 1, 2] : Fin 3 → Fin S32x717x1.rank)
  bcast_S1x717x1_S1x717x717_0_1_2 : S1x717x1.BroadcastsInDim S1x717x717 (![0, 1, 2] : Fin 3 → Fin S1x717x717.rank)
  bcast_S1x1x717_S1x717x717_0_1_2 : S1x1x717.BroadcastsInDim S1x717x717 (![0, 1, 2] : Fin 3 → Fin S1x717x717.rank)
  bcast_S32x717x1_S32x717x717_0_1_2 : S32x717x1.BroadcastsInDim S32x717x717 (![0, 1, 2] : Fin 3 → Fin S32x717x717.rank)
  bcast_S1x717x717_S32x717x717_0_1_2 : S1x717x717.BroadcastsInDim S32x717x717 (![0, 1, 2] : Fin 3 → Fin S32x717x717.rank)
  bcast_S1x1x717_S32x1x717_0_1_2 : S1x1x717.BroadcastsInDim S32x1x717 (![0, 1, 2] : Fin 3 → Fin S32x1x717.rank)
  bcast_S32x1x1_S32x1x717_0_1_2 : S32x1x1.BroadcastsInDim S32x1x717 (![0, 1, 2] : Fin 3 → Fin S32x1x717.rank)
  bcast_S32x1x717_S32x717x717_0_1_2 : S32x1x717.BroadcastsInDim S32x717x717 (![0, 1, 2] : Fin 3 → Fin S32x717x717.rank)
  bcast_S_S32 : S_.BroadcastsInDim S32 (![] : Fin 0 → Fin S32.rank)
  bcast_S_S717 : S_.BroadcastsInDim S717 (![] : Fin 0 → Fin S717.rank)
  slices_S33_S1_0 : S33.Slices ![0] S1
  bcast_S_S1 : S_.BroadcastsInDim S1 (![] : Fin 0 → Fin S1.rank)

variable [Facts]

def fn_part2 {F : FTy → Type} [FloatOps F] (main_v29 : IVec S32 1) (main_v34 : IVec S717 1) (main_v37 : IVec S1 1) (main_v38 : IVec S32x717x717 1) (main_v41 : IVec S1x717x717 32) (main_v42 : IVec S1x717x717 32) : IVec S32 1 × IVec S717 1 × IVec S1 1 × IVec S32x717x717 1 :=
  let main_v43 : IVec S1x717x717 1 := cmpi .ne main_v41 main_v42
  let main_v44 : IVec S32x717x717 1 := broadcastInDim S32x717x717 ![0, 1, 2] bcast_S1x717x717_S32x717x717_0_1_2 main_v43
  let main_v45 : IVec S32x717x717 1 := ori main_v38 main_v44
  (main_v29, main_v34, main_v37, main_v45)

def fn_part1 {F : FTy → Type} [FloatOps F] (main_arg1 : IVec S33 32) (main_arg2 : IVec S717 32) (main_v20 : IVec S32x717x717 1) (main_v21 : IVec S32 32) (main_v22 : IVec S32 32) (main_c : IVec S_ 32) : IVec S32 1 × IVec S717 1 × IVec S1 1 × IVec S32x717x717 1 :=
  let main_v23 : IVec S32 32 := broadcastInDim S32 ![] bcast_S_S32 main_c
  let main_v24 : IVec S32 1 := cmpi .sge main_v21 main_v23
  let main_v25 : IVec S32 1 := cmpi .sle main_v21 main_v22
  let main_v26 : IVec S32 1 := andi main_v24 main_v25
  let main_c_0 : IVec S_ 32 := constantI S_ 32 717#32
  let main_v27 : IVec S32 32 := broadcastInDim S32 ![] bcast_S_S32 main_c_0
  let main_v28 : IVec S32 1 := cmpi .sle main_v22 main_v27
  let main_v29 : IVec S32 1 := andi main_v26 main_v28
  let main_c_1 : IVec S_ 32 := constantI S_ 32 0#32
  let main_v30 : IVec S717 32 := broadcastInDim S717 ![] bcast_S_S717 main_c_1
  let main_v31 : IVec S717 1 := cmpi .sge main_arg2 main_v30
  let main_c_2 : IVec S_ 32 := constantI S_ 32 112#32
  let main_v32 : IVec S717 32 := broadcastInDim S717 ![] bcast_S_S717 main_c_2
  let main_v33 : IVec S717 1 := cmpi .slt main_arg2 main_v32
  let main_v34 : IVec S717 1 := andi main_v31 main_v33
  let main_v35 : IVec S1 32 := (extractStridedSlice S1 ![0] · slices_S33_S1_0) main_arg1
  let main_c_3 : IVec S_ 32 := constantI S_ 32 0#32
  let main_v36 : IVec S1 32 := broadcastInDim S1 ![] bcast_S_S1 main_c_3
  let main_v37 : IVec S1 1 := cmpi .eq main_v35 main_v36
  let main_v38 : IVec S32x717x717 1 := noti main_v20
  let main_v39 : IVec S1x717x1 32 := broadcastInDim S1x717x1 ![1] bcast_S717_S1x717x1_1 main_arg2
  let main_v40 : IVec S1x1x717 32 := broadcastInDim S1x1x717 ![2] bcast_S717_S1x1x717_2 main_arg2
  let main_v41 : IVec S1x717x717 32 := broadcastInDim S1x717x717 ![0, 1, 2] bcast_S1x717x1_S1x717x717_0_1_2 main_v39
  let main_v42 : IVec S1x717x717 32 := broadcastInDim S1x717x717 ![0, 1, 2] bcast_S1x1x717_S1x717x717_0_1_2 main_v40
  fn_part2 (F := F) main_v29 main_v34 main_v37 main_v38 main_v41 main_v42

def fn {F : FTy → Type} [FloatOps F] (main_arg0 : FVec F S2x3072x14336 .bf16) (main_arg1 : IVec S33 32) (main_arg2 : IVec S717 32) (main_arg3 : FVec F S717x128x128 .fp8e4m3) (main_arg4 : FVec F S717 .f32) : IVec S32 1 × IVec S717 1 × IVec S1 1 × IVec S32x717x717 1 :=
  let main_v0 : IVec S32 32 := (extractStridedSlice S32 ![0] · slices_S33_S32_0) main_arg1
  let main_v1 : IVec S32x1x1 32 := broadcastInDim S32x1x1 ![0] bcast_S32_S32x1x1_0 main_v0
  let main_v2 : IVec S32 32 := (extractStridedSlice S32 ![1] · slices_S33_S32_1) main_arg1
  let main_v3 : IVec S32x1x1 32 := broadcastInDim S32x1x1 ![0] bcast_S32_S32x1x1_0 main_v2
  let main_v4 : IVec S717 32 := iotaInDim S717 32 0
  let main_v5 : IVec S1x717x1 32 := broadcastInDim S1x717x1 ![1] bcast_S717_S1x717x1_1 main_v4
  let main_v6 : IVec S1x1x717 32 := broadcastInDim S1x1x717 ![2] bcast_S717_S1x1x717_2 main_v4
  let main_v7 : IVec S32x717x1 32 := broadcastInDim S32x717x1 ![0, 1, 2] bcast_S32x1x1_S32x717x1_0_1_2 main_v1
  let main_v8 : IVec S32x717x1 32 := broadcastInDim S32x717x1 ![0, 1, 2] bcast_S1x717x1_S32x717x1_0_1_2 main_v5
  let main_v9 : IVec S32x717x1 1 := cmpi .sle main_v7 main_v8
  let main_v10 : IVec S1x717x717 32 := broadcastInDim S1x717x717 ![0, 1, 2] bcast_S1x717x1_S1x717x717_0_1_2 main_v5
  let main_v11 : IVec S1x717x717 32 := broadcastInDim S1x717x717 ![0, 1, 2] bcast_S1x1x717_S1x717x717_0_1_2 main_v6
  let main_v12 : IVec S1x717x717 1 := cmpi .slt main_v10 main_v11
  let main_v13 : IVec S32x717x717 1 := broadcastInDim S32x717x717 ![0, 1, 2] bcast_S32x717x1_S32x717x717_0_1_2 main_v9
  let main_v14 : IVec S32x717x717 1 := broadcastInDim S32x717x717 ![0, 1, 2] bcast_S1x717x717_S32x717x717_0_1_2 main_v12
  let main_v15 : IVec S32x717x717 1 := andi main_v13 main_v14
  let main_v16 : IVec S32x1x717 32 := broadcastInDim S32x1x717 ![0, 1, 2] bcast_S1x1x717_S32x1x717_0_1_2 main_v6
  let main_v17 : IVec S32x1x717 32 := broadcastInDim S32x1x717 ![0, 1, 2] bcast_S32x1x1_S32x1x717_0_1_2 main_v3
  let main_v18 : IVec S32x1x717 1 := cmpi .slt main_v16 main_v17
  let main_v19 : IVec S32x717x717 1 := broadcastInDim S32x717x717 ![0, 1, 2] bcast_S32x1x717_S32x717x717_0_1_2 main_v18
  let main_v20 : IVec S32x717x717 1 := andi main_v15 main_v19
  let main_v21 : IVec S32 32 := (extractStridedSlice S32 ![0] · slices_S33_S32_0) main_arg1
  let main_v22 : IVec S32 32 := (extractStridedSlice S32 ![1] · slices_S33_S32_1) main_arg1
  let main_c : IVec S_ 32 := constantI S_ 32 0#32
  fn_part1 (F := F) main_arg1 main_arg2 main_v20 main_v21 main_v22 main_c
-- ==== Pre_words_in_range.lean ====
abbrev S2x3072x14336 : Shape := ⟨3, ![2, 3072, 14336]⟩
abbrev S33 : Shape := ⟨1, ![33]⟩
abbrev S717 : Shape := ⟨1, ![717]⟩
abbrev S717x128x128 : Shape := ⟨3, ![717, 128, 128]⟩
abbrev S32 : Shape := ⟨1, ![32]⟩
abbrev S_ : Shape := ⟨0, ![]⟩

class Facts : Prop where
  slices_S33_S32_0 : S33.Slices ![0] S32
  slices_S33_S32_1 : S33.Slices ![1] S32
  bcast_S_S32 : S_.BroadcastsInDim S32 (![] : Fin 0 → Fin S32.rank)
  bcast_S_S717 : S_.BroadcastsInDim S717 (![] : Fin 0 → Fin S717.rank)

variable [Facts]

def fn {F : FTy → Type} [FloatOps F] (main_arg0 : FVec F S2x3072x14336 .bf16) (main_arg1 : IVec S33 32) (main_arg2 : IVec S717 32) (main_arg3 : FVec F S717x128x128 .fp8e4m3) (main_arg4 : FVec F S717 .f32) : IVec S32 1 × IVec S717 1 :=
  let main_v0 : IVec S32 32 := (extractStridedSlice S32 ![0] · slices_S33_S32_0) main_arg1
  let main_v1 : IVec S32 32 := (extractStridedSlice S32 ![1] · slices_S33_S32_1) main_arg1
  let main_c : IVec S_ 32 := constantI S_ 32 0#32
  let main_v2 : IVec S32 32 := broadcastInDim S32 ![] bcast_S_S32 main_c
  let main_v3 : IVec S32 1 := cmpi .sge main_v0 main_v2
  let main_v4 : IVec S32 1 := cmpi .sle main_v0 main_v1
  let main_v5 : IVec S32 1 := andi main_v3 main_v4
  let main_c_0 : IVec S_ 32 := constantI S_ 32 717#32
  let main_v6 : IVec S32 32 := broadcastInDim S32 ![] bcast_S_S32 main_c_0
  let main_v7 : IVec S32 1 := cmpi .sle main_v1 main_v6
  let main_v8 : IVec S32 1 := andi main_v5 main_v7
  let main_c_1 : IVec S_ 32 := constantI S_ 32 0#32
  let main_v9 : IVec S717 32 := broadcastInDim S717 ![] bcast_S_S717 main_c_1
  let main_v10 : IVec S717 1 := cmpi .sge main_arg2 main_v9
  let main_c_2 : IVec S_ 32 := constantI S_ 32 112#32
  let main_v11 : IVec S717 32 := broadcastInDim S717 ![] bcast_S_S717 main_c_2
  let main_v12 : IVec S717 1 := cmpi .slt main_arg2 main_v11
  let main_v13 : IVec S717 1 := andi main_v10 main_v12
  (main_v8, main_v13)
-- ==== Kernel.lean ====
abbrev S2x3072x14336 : Shape := ⟨3, ![2, 3072, 14336]⟩
abbrev S33 : Shape := ⟨1, ![33]⟩
abbrev S717 : Shape := ⟨1, ![717]⟩
abbrev S717x128x128 : Shape := ⟨3, ![717, 128, 128]⟩
abbrev S6144x14336 : Shape := ⟨2, ![6144, 14336]⟩
abbrev S6144x4096 : Shape := ⟨2, ![6144, 4096]⟩
abbrev S512x14336 : Shape := ⟨2, ![512, 14336]⟩
abbrev S512x4096 : Shape := ⟨2, ![512, 4096]⟩
abbrev S512x128 : Shape := ⟨2, ![512, 128]⟩
abbrev S1 : Shape := ⟨1, ![1]⟩
abbrev S512x256 : Shape := ⟨2, ![512, 256]⟩
abbrev S1x128x128 : Shape := ⟨3, ![1, 128, 128]⟩
abbrev S128x128 : Shape := ⟨2, ![128, 128]⟩
abbrev S128x256 : Shape := ⟨2, ![128, 256]⟩
abbrev S2x3072x4096 : Shape := ⟨3, ![2, 3072, 4096]⟩

abbrev nBuf : Space → Nat
  | .hbm => 6
  | .vmem => 6
  | .smem => 3
  | _ => 0

abbrev bufTy : (tb : Table) → Fin (tcTables nBuf tb) → BufTy
  | .hbm, ⟨0, _⟩ => ⟨S2x3072x14336, .bf16⟩
  | .hbm, ⟨1, _⟩ => ⟨S717x128x128, .fp8e4m3⟩
  | .hbm, ⟨2, _⟩ => ⟨S717, .f32⟩
  | .hbm, ⟨3, _⟩ => ⟨S6144x14336, .bf16⟩
  | .hbm, ⟨4, _⟩ => ⟨S6144x4096, .bf16⟩
  | .hbm, ⟨5, _⟩ => ⟨S2x3072x4096, .bf16⟩
  | .local _ .vmem, ⟨0, _⟩ => ⟨S512x14336, .bf16⟩
  | .local _ .vmem, ⟨1, _⟩ => ⟨S512x14336, .bf16⟩
  | .local _ .vmem, ⟨2, _⟩ => ⟨S717x128x128, .fp8e4m3⟩
  | .local _ .vmem, ⟨3, _⟩ => ⟨S512x4096, .bf16⟩
  | .local _ .vmem, ⟨4, _⟩ => ⟨S512x4096, .bf16⟩
  | .local _ .vmem, ⟨5, _⟩ => ⟨S512x128, .f32⟩
  | .local _ .smem, ⟨0, _⟩ => ⟨S33, .i32⟩
  | .local _ .smem, ⟨1, _⟩ => ⟨S717, .i32⟩
  | .local _ .smem, ⟨2, _⟩ => ⟨S717, .f32⟩
  | _, _ => ⟨S2x3072x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg8 : BitVec 32 := Scf.iv c0_i32 c1_i32 k0_t1
  let v1 : Index := Scalar.indexCast arg8
  ![v1.toNat]
def k0_off2 (k0_t1 : Fin k0_t1_loop.trips) : Fin 1 → Nat :=
  let c0_i32 : BitVec 32 := 0#32
  let c1_i32 : BitVec 32 := 1#32
  let arg8 : BitVec 32 := Scf.iv c0_i32 c1_i32 k0_t1
  let c1_i32_1 : BitVec 32 := 1#32
  let v3 : BitVec 32 := Scalar.addi arg8 c1_i32_1
  let v4 : Index := Scalar.indexCast v3
  ![v4.toNat]
@[reducible] def k0_t2_loop (v2 : BitVec 32) (v5 : BitVec 32) : Scf.Loop 32 :=
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_12 : BitVec 32 := 1#32
  ⟨c0_i32_9, v32, c1_i32_12⟩

def k0_off3 (v2 : BitVec 32) (v5 : BitVec 32) (k0_t2 : Fin (k0_t2_loop v2 v5).trips) : Fin 1 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let v56 : Index := Scalar.indexCast v55
  ![v56.toNat]
def k0_mult1 (v57 : BitVec 32) : BitVec 32 :=
  let c128_i32_26 : BitVec 32 := 128#32
  let v58 : BitVec 32 := Scalar.muli v57 c128_i32_26
  v58

def k0_off4 (v57 : BitVec 32) : Fin 2 → Nat :=
  let c0_27 : Index := 0#32
  let c128_i32_26 : BitVec 32 := 128#32
  let v58 : BitVec 32 := Scalar.muli v57 c128_i32_26
  let v59 : BitVec 32 := v58
  let v60 : Index := Scalar.indexCast v59
  ![0, v60.toNat]

def k0_chk2 (v57 : BitVec 32) : Prop :=
  (128 ∣ (k0_mult1 v57).toNat) ∧
  (∀ a, (k0_off4 v57) a + S512x128.size a ≤ S512x14336.size a)
theorem k0_mult1_dvd : ∀ (v57 : BitVec 32) (k0_hw2 : k0_chk2 v57), 128 ∣ (k0_mult1 v57).toNat := fun v57 k0_hw2 => k0_hw2.1
theorem k0_off4_inb : ∀ (v57 : BitVec 32) (k0_hw2 : k0_chk2 v57), ∀ a, (k0_off4 v57) a + S512x128.size a ≤ S512x14336.size a := fun v57 k0_hw2 => k0_hw2.2

def k0_off5 (v2 : BitVec 32) (v5 : BitVec 32) (k0_t2 : Fin (k0_t2_loop v2 v5).trips) : Fin 1 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let c1_i32_28 : BitVec 32 := 1#32
  let v63 : BitVec 32 := Scalar.addi v55 c1_i32_28
  let v64 : Index := Scalar.indexCast v63
  ![v64.toNat]
def k0_mult2 (v65 : BitVec 32) : BitVec 32 :=
  let c128_i32_29 : BitVec 32 := 128#32
  let v66 : BitVec 32 := Scalar.muli v65 c128_i32_29
  v66

def k0_off6 (v65 : BitVec 32) : Fin 2 → Nat :=
  let c0_30 : Index := 0#32
  let c128_i32_29 : BitVec 32 := 128#32
  let v66 : BitVec 32 := Scalar.muli v65 c128_i32_29
  let v67 : BitVec 32 := v66
  let v68 : Index := Scalar.indexCast v67
  ![0, v68.toNat]

def k0_chk3 (v65 : BitVec 32) : Prop :=
  (128 ∣ (k0_mult2 v65).toNat) ∧
  (∀ a, (k0_off6 v65) a + S512x128.size a ≤ S512x14336.size a)
theorem k0_mult2_dvd : ∀ (v65 : BitVec 32) (k0_hw3 : k0_chk3 v65), 128 ∣ (k0_mult2 v65).toNat := fun v65 k0_hw3 => k0_hw3.1
theorem k0_off6_inb : ∀ (v65 : BitVec 32) (k0_hw3 : k0_chk3 v65), ∀ a, (k0_off6 v65) a + S512x128.size a ≤ S512x14336.size a := fun v65 k0_hw3 => k0_hw3.2

def k0_off7 (v2 : BitVec 32) (v5 : BitVec 32) (k0_t2 : Fin (k0_t2_loop v2 v5).trips) : Fin 1 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let v72 : Index := Scalar.indexCast v55
  ![v72.toNat]
def k0_off8 (v2 : BitVec 32) (v5 : BitVec 32) (k0_t2 : Fin (k0_t2_loop v2 v5).trips) : Fin 3 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let v75 : Index := Scalar.indexCast v55
  let c0_31 : Index := 0#32
  let c0_32 : Index := 0#32
  ![v75.toNat, 0, 0]
def k0_off9 (v2 : BitVec 32) (v5 : BitVec 32) (k0_t2 : Fin (k0_t2_loop v2 v5).trips) : Fin 1 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let c1_i32_33 : BitVec 32 := 1#32
  let v81 : BitVec 32 := Scalar.addi v55 c1_i32_33
  let v82 : Index := Scalar.indexCast v81
  ![v82.toNat]
def k0_off10 (v2 : BitVec 32) (v5 : BitVec 32) (k0_t2 : Fin (k0_t2_loop v2 v5).trips) : Fin 3 → Nat :=
  let c2_i32_25 : BitVec 32 := 2#32
  let c0_i32_9 : BitVec 32 := 0#32
  let c1_i32_12 : BitVec 32 := 1#32
  let arg9 : BitVec 32 := Scf.iv c0_i32_9 c1_i32_12 k0_t2
  let v54 : BitVec 32 := Scalar.muli c2_i32_25 arg9
  let v55 : BitVec 32 := Scalar.addi v2 v54
  let c1_i32_33 : BitVec 32 := 1#32
  let v81 : BitVec 32 := Scalar.addi v55 c1_i32_33
  let v85 : Index := Scalar.indexCast v81
  let c0_34 : Index := 0#32
  let c0_35 : Index := 0#32
  ![v85.toNat, 0, 0]
@[reducible] def k0_t3_loop (v2 : BitVec 32) (v5 : BitVec 32) : Scf.Loop 32 :=
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let v29 : BitVec 32 := Scalar.addi c0_i32_9 v28
  let c1_i32_13 : BitVec 32 := 1#32
  ⟨v32, v29, c1_i32_13⟩
def k0_off11 (v2 : BitVec 32) (v5 : BitVec 32) (k0_t3 : Fin (k0_t3_loop v2 v5).trips) : Fin 1 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let v56 : Index := Scalar.indexCast v55
  ![v56.toNat]
def k0_mult3 (v57 : BitVec 32) : BitVec 32 :=
  let c128_i32_26 : BitVec 32 := 128#32
  let v58 : BitVec 32 := Scalar.muli v57 c128_i32_26
  v58

def k0_off12 (v57 : BitVec 32) : Fin 2 → Nat :=
  let c0_27 : Index := 0#32
  let c128_i32_26 : BitVec 32 := 128#32
  let v58 : BitVec 32 := Scalar.muli v57 c128_i32_26
  let v59 : BitVec 32 := v58
  let v60 : Index := Scalar.indexCast v59
  ![0, v60.toNat]

def k0_chk4 (v57 : BitVec 32) : Prop :=
  (128 ∣ (k0_mult3 v57).toNat) ∧
  (∀ a, (k0_off12 v57) a + S512x128.size a ≤ S512x14336.size a)
theorem k0_mult3_dvd : ∀ (v57 : BitVec 32) (k0_hw4 : k0_chk4 v57), 128 ∣ (k0_mult3 v57).toNat := fun v57 k0_hw4 => k0_hw4.1
theorem k0_off12_inb : ∀ (v57 : BitVec 32) (k0_hw4 : k0_chk4 v57), ∀ a, (k0_off12 v57) a + S512x128.size a ≤ S512x14336.size a := fun v57 k0_hw4 => k0_hw4.2

def k0_off13 (v2 : BitVec 32) (v5 : BitVec 32) (k0_t3 : Fin (k0_t3_loop v2 v5).trips) : Fin 1 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let c1_i32_28 : BitVec 32 := 1#32
  let v63 : BitVec 32 := Scalar.addi v55 c1_i32_28
  let v64 : Index := Scalar.indexCast v63
  ![v64.toNat]
def k0_mult4 (v65 : BitVec 32) : BitVec 32 :=
  let c128_i32_29 : BitVec 32 := 128#32
  let v66 : BitVec 32 := Scalar.muli v65 c128_i32_29
  v66

def k0_off14 (v65 : BitVec 32) : Fin 2 → Nat :=
  let c0_30 : Index := 0#32
  let c128_i32_29 : BitVec 32 := 128#32
  let v66 : BitVec 32 := Scalar.muli v65 c128_i32_29
  let v67 : BitVec 32 := v66
  let v68 : Index := Scalar.indexCast v67
  ![0, v68.toNat]

def k0_chk5 (v65 : BitVec 32) : Prop :=
  (128 ∣ (k0_mult4 v65).toNat) ∧
  (∀ a, (k0_off14 v65) a + S512x128.size a ≤ S512x14336.size a)
theorem k0_mult4_dvd : ∀ (v65 : BitVec 32) (k0_hw5 : k0_chk5 v65), 128 ∣ (k0_mult4 v65).toNat := fun v65 k0_hw5 => k0_hw5.1
theorem k0_off14_inb : ∀ (v65 : BitVec 32) (k0_hw5 : k0_chk5 v65), ∀ a, (k0_off14 v65) a + S512x128.size a ≤ S512x14336.size a := fun v65 k0_hw5 => k0_hw5.2

def k0_off15 (v2 : BitVec 32) (v5 : BitVec 32) (k0_t3 : Fin (k0_t3_loop v2 v5).trips) : Fin 1 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let v72 : Index := Scalar.indexCast v55
  ![v72.toNat]
def k0_off16 (v2 : BitVec 32) (v5 : BitVec 32) (k0_t3 : Fin (k0_t3_loop v2 v5).trips) : Fin 3 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let v75 : Index := Scalar.indexCast v55
  let c0_31 : Index := 0#32
  let c0_32 : Index := 0#32
  ![v75.toNat, 0, 0]
def k0_off17 (v2 : BitVec 32) (v5 : BitVec 32) (k0_t3 : Fin (k0_t3_loop v2 v5).trips) : Fin 1 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let c1_i32_33 : BitVec 32 := 1#32
  let v81 : BitVec 32 := Scalar.addi v55 c1_i32_33
  let v82 : Index := Scalar.indexCast v81
  ![v82.toNat]
def k0_off18 (v2 : BitVec 32) (v5 : BitVec 32) (k0_t3 : Fin (k0_t3_loop v2 v5).trips) : Fin 3 → Nat :=
  let c2_i32_25 : BitVec 32 := 2#32
  let c0_i32_9 : BitVec 32 := 0#32
  let v10 : BitVec 32 := Scalar.subi v5 v2
  let c0_i32_3 : BitVec 32 := 0#32
  let v12 : BitVec 1 := Scalar.cmpi .sgt v10 c0_i32_3
  let v13 : BitVec 32 := Scalar.extui v12
  let c0_i32_4 : BitVec 32 := 0#32
  let v14 : BitVec 1 := Scalar.cmpi .slt v10 c0_i32_4
  let v15 : BitVec 32 := Scalar.extui v14
  let v16 : BitVec 32 := Scalar.subi v13 v15
  let c2_i32 : BitVec 32 := 2#32
  let c0_i32_5 : BitVec 32 := 0#32
  let v17 : BitVec 1 := Scalar.cmpi .sgt c2_i32 c0_i32_5
  let v18 : BitVec 32 := Scalar.extui v17
  let c0_i32_6 : BitVec 32 := 0#32
  let v19 : BitVec 1 := Scalar.cmpi .slt c2_i32 c0_i32_6
  let v20 : BitVec 32 := Scalar.extui v19
  let v21 : BitVec 32 := Scalar.subi v18 v20
  let v22 : BitVec 1 := Scalar.cmpi .ne v16 v21
  let v23 : BitVec 32 := Scalar.remsi v10 c2_i32
  let c0_i32_7 : BitVec 32 := 0#32
  let v24 : BitVec 1 := Scalar.cmpi .ne v23 c0_i32_7
  let v25 : BitVec 1 := Scalar.andi v22 v24
  let v11 : BitVec 32 := Scalar.divsi v10 c2_i32
  let c1_i32_8 : BitVec 32 := 1#32
  let v26 : BitVec 32 := Scalar.subi v11 c1_i32_8
  let v27 : BitVec 32 := Scalar.select v25 v26 v11
  let v28 : BitVec 32 := Scalar.subi v27 c0_i32_9
  let c1_i32_11 : BitVec 32 := 1#32
  let v30 : BitVec 32 := Scalar.divsi v28 c1_i32_11
  let v31 : BitVec 32 := Scalar.muli v30 c1_i32_11
  let v32 : BitVec 32 := Scalar.addi c0_i32_9 v31
  let c1_i32_13 : BitVec 32 := 1#32
  let arg9 : BitVec 32 := Scf.iv v32 c1_i32_13 k0_t3
  let v54 : BitVec 32 := Scalar.muli c2_i32_25 arg9
  let v55 : BitVec 32 := Scalar.addi v2 v54
  let c1_i32_33 : BitVec 32 := 1#32
  let v81 : BitVec 32 := Scalar.addi v55 c1_i32_33
  let v85 : Index := Scalar.indexCast v81
  let c0_34 : Index := 0#32
  let c0_35 : Index := 0#32
  ![v85.toNat, 0, 0]
def k0_off19 (v5 : BitVec 32) : Fin 1 → Nat :=
  let c1_i32_27 : BitVec 32 := 1#32
  let v55 : BitVec 32 := Scalar.subi v5 c1_i32_27
  let v56 : Index := Scalar.indexCast v55
  ![v56.toNat]
def k0_cond1 (v2 : BitVec 32) (v5 : BitVec 32) : BitVec 1 :=
  let v10 : BitVec 32 := Scalar.subi v5 v2
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v10 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let c1_i32_20 : BitVec 32 := 1#32
  let v45 : BitVec 1 := Scalar.cmpi .eq v44 c1_i32_20
  let v46 : BitVec 32 := Scalar.extui v45
  let c0_i32_21 : BitVec 32 := 0#32
  let v47 : BitVec 1 := Scalar.cmpi .ne v46 c0_i32_21
  v47

def k0_mult5 (v57 : BitVec 32) : BitVec 32 :=
  let c128_i32_28 : BitVec 32 := 128#32
  let v58 : BitVec 32 := Scalar.muli v57 c128_i32_28
  v58

def k0_off20 (v57 : BitVec 32) : Fin 2 → Nat :=
  let c0_29 : Index := 0#32
  let c128_i32_28 : BitVec 32 := 128#32
  let v58 : BitVec 32 := Scalar.muli v57 c128_i32_28
  let v59 : BitVec 32 := v58
  let v60 : Index := Scalar.indexCast v59
  ![0, v60.toNat]

def k0_chk6 (v2 : BitVec 32) (v5 : BitVec 32) (v57 : BitVec 32) : Prop :=
  (∀ (k0_h1 : k0_cond1 v2 v5 = 1#1), 128 ∣ (k0_mult5 v57).toNat) ∧
  (∀ (k0_h1 : k0_cond1 v2 v5 = 1#1), ∀ a, (k0_off20 v57) a + S512x128.size a ≤ S512x14336.size a)
theorem k0_mult5_dvd : ∀ (v2 : BitVec 32) (v5 : BitVec 32) (v57 : BitVec 32) (k0_hw6 : k0_chk6 v2 v5 v57), ∀ (k0_h1 : k0_cond1 v2 v5 = 1#1), 128 ∣ (k0_mult5 v57).toNat := fun v2 v5 v57 k0_hw6 k0_h1 => k0_hw6.1 k0_h1
theorem k0_off20_inb : ∀ (v2 : BitVec 32) (v5 : BitVec 32) (v57 : BitVec 32) (k0_hw6 : k0_chk6 v2 v5 v57), ∀ (k0_h1 : k0_cond1 v2 v5 = 1#1), ∀ a, (k0_off20 v57) a + S512x128.size a ≤ S512x14336.size a := fun v2 v5 v57 k0_hw6 k0_h1 => k0_hw6.2 k0_h1

def k0_off21 (v5 : BitVec 32) : Fin 1 → Nat :=
  let c1_i32_30 : BitVec 32 := 1#32
  let v63 : BitVec 32 := Scalar.subi v5 c1_i32_30
  let v64 : Index := Scalar.indexCast v63
  ![v64.toNat]
def k0_off22 (v5 : BitVec 32) : Fin 3 → Nat :=
  let c1_i32_30 : BitVec 32 := 1#32
  let v63 : BitVec 32 := Scalar.subi v5 c1_i32_30
  let v67 : Index := Scalar.indexCast v63
  let c0_31 : Index := 0#32
  let c0_32 : Index := 0#32
  ![v67.toNat, 0, 0]

def k0_chk1 (v2 : BitVec 32) (v5 : BitVec 32) : Prop :=
  ((k0_t2_loop v2 v5).OK) ∧
  (∀ k0_t2 : Fin (k0_t2_loop v2 v5).trips, ∀ a, (k0_off3 v2 v5 k0_t2) a + S1.size a ≤ S717.size a) ∧
  (∀ k0_t2 : Fin (k0_t2_loop v2 v5).trips, ∀ a, (k0_off5 v2 v5 k0_t2) a + S1.size a ≤ S717.size a) ∧
  (∀ k0_t2 : Fin (k0_t2_loop v2 v5).trips, ∀ a, (k0_off7 v2 v5 k0_t2) a + S1.size a ≤ S717.size a) ∧
  (∀ k0_t2 : Fin (k0_t2_loop v2 v5).trips, ∀ a, (k0_off8 v2 v5 k0_t2) a + S1x128x128.size a ≤ S717x128x128.size a) ∧
  (∀ k0_t2 : Fin (k0_t2_loop v2 v5).trips, ∀ a, (k0_off9 v2 v5 k0_t2) a + S1.size a ≤ S717.size a) ∧
  (∀ k0_t2 : Fin (k0_t2_loop v2 v5).trips, ∀ a, (k0_off10 v2 v5 k0_t2) a + S1x128x128.size a ≤ S717x128x128.size a) ∧
  ((k0_t3_loop v2 v5).OK) ∧
  (∀ k0_t3 : Fin (k0_t3_loop v2 v5).trips, ∀ a, (k0_off11 v2 v5 k0_t3) a + S1.size a ≤ S717.size a) ∧
  (∀ k0_t3 : Fin (k0_t3_loop v2 v5).trips, ∀ a, (k0_off13 v2 v5 k0_t3) a + S1.size a ≤ S717.size a) ∧
  (∀ k0_t3 : Fin (k0_t3_loop v2 v5).trips, ∀ a, (k0_off15 v2 v5 k0_t3) a + S1.size a ≤ S717.size a) ∧
  (∀ k0_t3 : Fin (k0_t3_loop v2 v5).trips, ∀ a, (k0_off16 v2 v5 k0_t3) a + S1x128x128.size a ≤ S717x128x128.size a) ∧
  (∀ k0_t3 : Fin (k0_t3_loop v2 v5).trips, ∀ a, (k0_off17 v2 v5 k0_t3) a + S1.size a ≤ S717.size a) ∧
  (∀ k0_t3 : Fin (k0_t3_loop v2 v5).trips, ∀ a, (k0_off18 v2 v5 k0_t3) a + S1x128x128.size a ≤ S717x128x128.size a) ∧
  (∀ (k0_h1 : k0_cond1 v2 v5 = 1#1), ∀ a, (k0_off19 v5) a + S1.size a ≤ S717.size a) ∧
  (∀ (k0_h1 : k0_cond1 v2 v5 = 1#1), ∀ a, (k0_off21 v5) a + S1.size a ≤ S717.size a) ∧
  (∀ (k0_h1 : k0_cond1 v2 v5 = 1#1), ∀ a, (k0_off22 v5) a + S1x128x128.size a ≤ S717x128x128.size a)
theorem k0_t2_ok : ∀ (v2 : BitVec 32) (v5 : BitVec 32) (k0_hw1 : k0_chk1 v2 v5), (k0_t2_loop v2 v5).OK := fun v2 v5 k0_hw1 => k0_hw1.1
theorem k0_off3_inb : ∀ (v2 : BitVec 32) (v5 : BitVec 32) (k0_hw1 : k0_chk1 v2 v5) (k0_t2 : Fin (k0_t2_loop v2 v5).trips), ∀ a, (k0_off3 v2 v5 k0_t2) a + S1.size a ≤ S717.size a := fun v2 v5 k0_hw1 k0_t2 => k0_hw1.2.1 k0_t2
theorem k0_off5_inb : ∀ (v2 : BitVec 32) (v5 : BitVec 32) (k0_hw1 : k0_chk1 v2 v5) (k0_t2 : Fin (k0_t2_loop v2 v5).trips), ∀ a, (k0_off5 v2 v5 k0_t2) a + S1.size a ≤ S717.size a := fun v2 v5 k0_hw1 k0_t2 => k0_hw1.2.2.1 k0_t2
theorem k0_off7_inb : ∀ (v2 : BitVec 32) (v5 : BitVec 32) (k0_hw1 : k0_chk1 v2 v5) (k0_t2 : Fin (k0_t2_loop v2 v5).trips), ∀ a, (k0_off7 v2 v5 k0_t2) a + S1.size a ≤ S717.size a := fun v2 v5 k0_hw1 k0_t2 => k0_hw1.2.2.2.1 k0_t2
theorem k0_off8_inb : ∀ (v2 : BitVec 32) (v5 : BitVec 32) (k0_hw1 : k0_chk1 v2 v5) (k0_t2 : Fin (k0_t2_loop v2 v5).trips), ∀ a, (k0_off8 v2 v5 k0_t2) a + S1x128x128.size a ≤ S717x128x128.size a := fun v2 v5 k0_hw1 k0_t2 => k0_hw1.2.2.2.2.1 k0_t2
theorem k0_off9_inb : ∀ (v2 : BitVec 32) (v5 : BitVec 32) (k0_hw1 : k0_chk1 v2 v5) (k0_t2 : Fin (k0_t2_loop v2 v5).trips), ∀ a, (k0_off9 v2 v5 k0_t2) a + S1.size a ≤ S717.size a := fun v2 v5 k0_hw1 k0_t2 => k0_hw1.2.2.2.2.2.1 k0_t2
theorem k0_off10_inb : ∀ (v2 : BitVec 32) (v5 : BitVec 32) (k0_hw1 : k0_chk1 v2 v5) (k0_t2 : Fin (k0_t2_loop v2 v5).trips), ∀ a, (k0_off10 v2 v5 k0_t2) a + S1x128x128.size a ≤ S717x128x128.size a := fun v2 v5 k0_hw1 k0_t2 => k0_hw1.2.2.2.2.2.2.1 k0_t2
theorem k0_t3_ok : ∀ (v2 : BitVec 32) (v5 : BitVec 32) (k0_hw1 : k0_chk1 v2 v5), (k0_t3_loop v2 v5).OK := fun v2 v5 k0_hw1 => k0_hw1.2.2.2.2.2.2.2.1
theorem k0_off11_inb : ∀ (v2 : BitVec 32) (v5 : BitVec 32) (k0_hw1 : k0_chk1 v2 v5) (k0_t3 : Fin (k0_t3_loop v2 v5).trips), ∀ a, (k0_off11 v2 v5 k0_t3) a + S1.size a ≤ S717.size a := fun v2 v5 k0_hw1 k0_t3 => k0_hw1.2.2.2.2.2.2.2.2.1 k0_t3
theorem k0_off13_inb : ∀ (v2 : BitVec 32) (v5 : BitVec 32) (k0_hw1 : k0_chk1 v2 v5) (k0_t3 : Fin (k0_t3_loop v2 v5).trips), ∀ a, (k0_off13 v2 v5 k0_t3) a + S1.size a ≤ S717.size a := fun v2 v5 k0_hw1 k0_t3 => k0_hw1.2.2.2.2.2.2.2.2.2.1 k0_t3
theorem k0_off15_inb : ∀ (v2 : BitVec 32) (v5 : BitVec 32) (k0_hw1 : k0_chk1 v2 v5) (k0_t3 : Fin (k0_t3_loop v2 v5).trips), ∀ a, (k0_off15 v2 v5 k0_t3) a + S1.size a ≤ S717.size a := fun v2 v5 k0_hw1 k0_t3 => k0_hw1.2.2.2.2.2.2.2.2.2.2.1 k0_t3
theorem k0_off16_inb : ∀ (v2 : BitVec 32) (v5 : BitVec 32) (k0_hw1 : k0_chk1 v2 v5) (k0_t3 : Fin (k0_t3_loop v2 v5).trips), ∀ a, (k0_off16 v2 v5 k0_t3) a + S1x128x128.size a ≤ S717x128x128.size a := fun v2 v5 k0_hw1 k0_t3 => k0_hw1.2.2.2.2.2.2.2.2.2.2.2.1 k0_t3
theorem k0_off17_inb : ∀ (v2 : BitVec 32) (v5 : BitVec 32) (k0_hw1 : k0_chk1 v2 v5) (k0_t3 : Fin (k0_t3_loop v2 v5).trips), ∀ a, (k0_off17 v2 v5 k0_t3) a + S1.size a ≤ S717.size a := fun v2 v5 k0_hw1 k0_t3 => k0_hw1.2.2.2.2.2.2.2.2.2.2.2.2.1 k0_t3
theorem k0_off18_inb : ∀ (v2 : BitVec 32) (v5 : BitVec 32) (k0_hw1 : k0_chk1 v2 v5) (k0_t3 : Fin (k0_t3_loop v2 v5).trips), ∀ a, (k0_off18 v2 v5 k0_t3) a + S1x128x128.size a ≤ S717x128x128.size a := fun v2 v5 k0_hw1 k0_t3 => k0_hw1.2.2.2.2.2.2.2.2.2.2.2.2.2.1 k0_t3
theorem k0_off19_inb : ∀ (v2 : BitVec 32) (v5 : BitVec 32) (k0_hw1 : k0_chk1 v2 v5), ∀ (k0_h1 : k0_cond1 v2 v5 = 1#1), ∀ a, (k0_off19 v5) a + S1.size a ≤ S717.size a := fun v2 v5 k0_hw1 k0_h1 => k0_hw1.2.2.2.2.2.2.2.2.2.2.2.2.2.2.1 k0_h1
theorem k0_off21_inb : ∀ (v2 : BitVec 32) (v5 : BitVec 32) (k0_hw1 : k0_chk1 v2 v5), ∀ (k0_h1 : k0_cond1 v2 v5 = 1#1), ∀ a, (k0_off21 v5) a + S1.size a ≤ S717.size a := fun v2 v5 k0_hw1 k0_h1 => k0_hw1.2.2.2.2.2.2.2.2.2.2.2.2.2.2.2.1 k0_h1
theorem k0_off22_inb : ∀ (v2 : BitVec 32) (v5 : BitVec 32) (k0_hw1 : k0_chk1 v2 v5), ∀ (k0_h1 : k0_cond1 v2 v5 = 1#1), ∀ a, (k0_off22 v5) a + S1x128x128.size a ≤ S717x128x128.size a := fun v2 v5 k0_hw1 k0_h1 => k0_hw1.2.2.2.2.2.2.2.2.2.2.2.2.2.2.2.2 k0_h1

def k0_mult6 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v50 : BitVec 32 := Scalar.muli arg8 c128_i32
  v50
def k0_off23 (k0_t1 : Fin k0_t1_loop.trips) : Fin 2 → Nat :=
  let c0_24 : Index := 0#32
  let c0_i32 : BitVec 32 := 0#32
  let c1_i32 : BitVec 32 := 1#32
  let arg8 : BitVec 32 := Scf.iv c0_i32 c1_i32 k0_t1
  let c128_i32 : BitVec 32 := 128#32
  let v50 : BitVec 32 := Scalar.muli arg8 c128_i32
  let v51 : BitVec 32 := v50
  let v52 : Index := Scalar.indexCast v51
  ![0, v52.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S717 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S717x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x3072x14336 : Shape := ⟨3, ![2, 3072, 14336]⟩
abbrev S33 : Shape := ⟨1, ![33]⟩
abbrev S717 : Shape := ⟨1, ![717]⟩
abbrev S717x128x128 : Shape := ⟨3, ![717, 128, 128]⟩
abbrev S1x717 : Shape := ⟨2, ![1, 717]⟩
abbrev S33x1 : Shape := ⟨2, ![33, 1]⟩
abbrev S33x717 : Shape := ⟨2, ![33, 717]⟩
abbrev S_ : Shape := ⟨0, ![]⟩
abbrev S717x1x1 : Shape := ⟨3, ![717, 1, 1]⟩
abbrev S32x128x112x128 : Shape := ⟨4, ![32, 128, 112, 128]⟩
abbrev S717x1 : Shape := ⟨2, ![717, 1]⟩
abbrev S717x2 : Shape := ⟨2, ![717, 2]⟩
abbrev S4096x14336 : Shape := ⟨2, ![4096, 14336]⟩
abbrev S2x3072x4096 : Shape := ⟨3, ![2, 3072, 4096]⟩

abbrev nBuf : Space → Nat
  | .hbm => 41
  | .vmem => 3
  | .smem => 0
  | _ => 0

abbrev bufTy : (tb : Table) → Fin (tcTables nBuf tb) → BufTy
  | .hbm, ⟨0, _⟩ => ⟨S2x3072x14336, .bf16⟩
  | .hbm, ⟨1, _⟩ => ⟨S33, .i32⟩
  | .hbm, ⟨2, _⟩ => ⟨S717, .i32⟩
  | .hbm, ⟨3, _⟩ => ⟨S717x128x128, .fp8e4m3⟩
  | .hbm, ⟨4, _⟩ => ⟨S717, .f32⟩
  | .hbm, ⟨5, _⟩ => ⟨S717, .i32⟩
  | .hbm, ⟨6, _⟩ => ⟨S1x717, .i32⟩
  | .hbm, ⟨7, _⟩ => ⟨S33x1, .i32⟩
  | .hbm, ⟨8, _⟩ => ⟨S33x717, .i32⟩
  | .hbm, ⟨9, _⟩ => ⟨S33x717, .i32⟩
  | .hbm, ⟨10, _⟩ => ⟨S33x717, .i1⟩
  | .hbm, ⟨11, _⟩ => ⟨S33x717, .i32⟩
  | .hbm, ⟨12, _⟩ => ⟨S_, .i32⟩
  | .hbm, ⟨13, _⟩ => ⟨S717, .i32⟩
  | .hbm, ⟨14, _⟩ => ⟨S_, .i32⟩
  | .hbm, ⟨15, _⟩ => ⟨S717, .i32⟩
  | .hbm, ⟨16, _⟩ => ⟨S717, .i32⟩
  | .hbm, ⟨17, _⟩ => ⟨S717x128x128, .bf16⟩
  | .hbm, ⟨18, _⟩ => ⟨S_, .bf16⟩
  | .hbm, ⟨19, _⟩ => ⟨S32x128x112x128, .bf16⟩
  | .hbm, ⟨20, _⟩ => ⟨S_, .i32⟩
  | .hbm, ⟨21, _⟩ => ⟨S717, .i32⟩
  | .hbm, ⟨22, _⟩ => ⟨S717, .i1⟩
  | .hbm, ⟨23, _⟩ => ⟨S_, .i32⟩
  | .hbm, ⟨24, _⟩ => ⟨S717, .i32⟩
  | .hbm, ⟨25, _⟩ => ⟨S717, .i32⟩
  | .hbm, ⟨26, _⟩ => ⟨S717, .i32⟩
  | .hbm, ⟨27, _⟩ => ⟨S_, .i32⟩
  | .hbm, ⟨28, _⟩ => ⟨S717, .i32⟩
  | .hbm, ⟨29, _⟩ => ⟨S717, .i1⟩
  | .hbm, ⟨30, _⟩ => ⟨S_, .i32⟩
  | .hbm, ⟨31, _⟩ => ⟨S717, .i32⟩
  | .hbm, ⟨32, _⟩ => ⟨S717, .i32⟩
  | .hbm, ⟨33, _⟩ => ⟨S717, .i32⟩
  | .hbm, ⟨34, _⟩ => ⟨S717x1, .i32⟩
  | .hbm, ⟨35, _⟩ => ⟨S717x1, .i32⟩
  | .hbm, ⟨36, _⟩ => ⟨S717x2, .i32⟩
  | .hbm, ⟨37, _⟩ => ⟨S32x128x112x128, .bf16⟩
  | .hbm, ⟨38, _⟩ => ⟨S4096x14336, .bf16⟩
  | .hbm, ⟨39, _⟩ => ⟨S2x3072x4096, .f32⟩
  | .hbm, ⟨40, _⟩ => ⟨S2x3072x4096, .bf16⟩
  | .local _ .vmem, ⟨0, _⟩ => ⟨S717x128x128, .fp8e4m3⟩
  | .local _ .vmem, ⟨1, _⟩ => ⟨S717, .f32⟩
  | .local _ .vmem, ⟨2, _⟩ => ⟨S717x128x128, .bf16⟩
  | _, _ => ⟨S2x3072x14336, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S717x128x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S717 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S717x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Words.lean ====
module

public import proofs.«01_k».proof.Pre_words_in_range
public import Idealize.ShloMosaic.Lib.Pointwise
public import Idealize.ShloMosaic.Lib.Affine

/-! What the precondition on the words says of the words of the tables, as inequalities of numbers. -/

@[expose] public section

noncomputable section

namespace Cert.Proof

open Idealize.ShloMosaic

variable {F : FTy → Type} [FloatOps F]

/-- Word `r` of the row-pointer table. -/
def ptrWord (x1 : (⟨1, ![33]⟩ : Shape).Idx → BitVec 32) (r : ℕ) : BitVec 32 := x1 (ix1 ⟨r % 33, Nat.mod_lt _ (by decide)⟩)

/-- The row pointers rise and stay within the entries; the column words name column blocks. -/
structure InRange (x1 : (⟨1, ![33]⟩ : Shape).Idx → BitVec 32) (x2 : (⟨1, ![717]⟩ : Shape).Idx → BitVec 32) : Prop where
  le : ∀ r < 32, (ptrWord x1 r).toNat ≤ (ptrWord x1 (r + 1)).toNat
  top : ∀ r < 32, (ptrWord x1 (r + 1)).toNat ≤ 717
  col : ∀ e, (x2 e).toNat < 112

/-- Three signed comparisons of words, as numbers. -/
theorem words_of_cmp {a b : BitVec 32} (h : IntOp.andi (IntOp.andi (IntOp.cmpi .sge a 0#32) (IntOp.cmpi .sle a b)) (IntOp.cmpi .sle b 717#32) = 1#1) :
    a.toNat ≤ b.toNat ∧ b.toNat ≤ 717 := by
  rw [IntOp.andi_eq_one, IntOp.andi_eq_one, IntOp.cmpi_sge, IntOp.cmpi_sle, IntOp.cmpi_sle] at h
  obtain ⟨⟨h1, h2⟩, h3⟩ := h
  have e1 : (0#32 : BitVec 32).toInt = 0 := by decide
  have e2 : (717#32 : BitVec 32).toInt = 717 := by decide
  rw [e1] at h1; rw [e2] at h3
  have ha := BitVec.toInt_eq_toNat_cond a; have hb := BitVec.toInt_eq_toNat_cond b
  have := a.isLt; have := b.isLt
  split at ha <;> split at hb <;> omega

/-- Two signed comparisons of a column word, as numbers. -/
theorem col_of_cmp {a : BitVec 32} (h : IntOp.andi (IntOp.cmpi .sge a 0#32) (IntOp.cmpi .slt a 112#32) = 1#1) : a.toNat < 112 := by
  rw [IntOp.andi_eq_one, IntOp.cmpi_sge, IntOp.cmpi_slt] at h
  obtain ⟨h1, h2⟩ := h
  have e1 : (0#32 : BitVec 32).toInt = 0 := by decide
  have e2 : (112#32 : BitVec 32).toInt = 112 := by decide
  rw [e1] at h1; rw [e2] at h2
  have ha := BitVec.toInt_eq_toNat_cond a
  have := a.isLt
  split at ha <;> omega

/-- A slice of the row-pointer table at an index. -/
theorem slice_ptr (x1 : (⟨1, ![33]⟩ : Shape).Idx → BitVec 32) {o r : ℕ} (hr : o + r < 33) {n : ℕ} (hrn : r < n)
    (h : (⟨1, ![33]⟩ : Shape).Slices ![o] ⟨1, ![n]⟩) :
    extractStridedSlice ⟨1, ![n]⟩ ![o] x1 h (ix1 ⟨r, hrn⟩) = ptrWord x1 (o + r) := by
  unfold extractStridedSlice ptrWord
  congr 1
  funext a
  match a with
  | ⟨0, _⟩ => exact Fin.ext (Nat.mod_eq_of_lt hr).symm

/-- The precondition on the words, decoded. -/
theorem inRange_of {x0 x1 x2 x3 x4} [Cert.Pre_words_in_range.Facts]
    (h1 : (Cert.Pre_words_in_range.fn (F := F) x0 x1 x2 x3 x4).1 = fun _ => 1#1)
    (h2 : (Cert.Pre_words_in_range.fn (F := F) x0 x1 x2 x3 x4).2 = fun _ => 1#1) : InRange x1 x2 := by
  have key : ∀ r < 32, (ptrWord x1 r).toNat ≤ (ptrWord x1 (r + 1)).toNat ∧ (ptrWord x1 (r + 1)).toNat ≤ 717 := fun r hr => by
    have h := congrFun h1 (ix1 ⟨r, hr⟩)
    have e0 := slice_ptr x1 (o := 0) (r := r) (by omega) hr Cert.Pre_words_in_range.Facts.slices_S33_S32_0
    have e1 := slice_ptr x1 (o := 1) (r := r) (by omega) hr Cert.Pre_words_in_range.Facts.slices_S33_S32_1
    rw [Nat.zero_add] at e0; rw [Nat.add_comm] at e1
    rw [← e0, ← e1]
    exact words_of_cmp h
  exact ⟨fun r hr => (key r hr).1, fun r hr => (key r hr).2, fun e => col_of_cmp (congrFun h2 e)⟩

end Cert.Proof
-- ==== Proof.Sparse.lean ====
module

public import proofs.«01_k».proof.Proof.Words
public import proofs.«01_k».proof.Pre_block_sparse
public import Idealize.ShloMosaic.Lib.Pointwise
public import Idealize.ShloMosaic.Lib.Affine

/-! What the block-sparse precondition says of the tables, as inequalities of numbers. -/

@[expose] public section

noncomputable section

namespace Cert.Proof

open Idealize.ShloMosaic

variable {F : FTy → Type} [FloatOps F]

/-- The pointers start at zero, and within a row no two entries name the same column block. -/
structure Sparse (x1 : (⟨1, ![33]⟩ : Shape).Idx → BitVec 32) (x2 : (⟨1, ![717]⟩ : Shape).Idx → BitVec 32) : Prop extends InRange x1 x2 where
  zero : ptrWord x1 0 = 0#32
  distinct : ∀ r < 32, ∀ d e : Fin 717, (ptrWord x1 r).toNat ≤ d.val → d.val < e.val → e.val < (ptrWord x1 (r + 1)).toNat →
    x2 (ix1 d) ≠ x2 (ix1 e)

/-- The block-sparse precondition, decoded. -/
theorem sparse_of {x0 x1 x2 x3 x4} [Cert.Pre_block_sparse.Facts]
    (h1 : (Cert.Pre_block_sparse.fn (F := F) x0 x1 x2 x3 x4).1 = fun _ => 1#1)
    (h2 : (Cert.Pre_block_sparse.fn (F := F) x0 x1 x2 x3 x4).2.1 = fun _ => 1#1)
    (h3 : (Cert.Pre_block_sparse.fn (F := F) x0 x1 x2 x3 x4).2.2.1 = fun _ => 1#1)
    (h4 : (Cert.Pre_block_sparse.fn (F := F) x0 x1 x2 x3 x4).2.2.2 = fun _ => 1#1) : Sparse x1 x2 := by
  have key : ∀ r < 32, (ptrWord x1 r).toNat ≤ (ptrWord x1 (r + 1)).toNat ∧ (ptrWord x1 (r + 1)).toNat ≤ 717 := fun r hr => by
    have h := congrFun h1 (ix1 ⟨r, hr⟩)
    have e0 := slice_ptr x1 (o := 0) (r := r) (by omega) hr Cert.Pre_block_sparse.Facts.slices_S33_S32_0
    have e1 := slice_ptr x1 (o := 1) (r := r) (by omega) hr Cert.Pre_block_sparse.Facts.slices_S33_S32_1
    rw [Nat.zero_add] at e0; rw [Nat.add_comm] at e1
    rw [← e0, ← e1]
    exact words_of_cmp h
  refine ⟨⟨fun r hr => (key r hr).1, fun r hr => (key r hr).2, fun e => col_of_cmp (congrFun h2 e)⟩, ?_, ?_⟩
  · have h := congrFun h3 (ix1 ⟨0, by decide⟩)
    have e0 := slice_ptr x1 (o := 0) (r := 0) (by omega) (by decide : 0 < 1) Cert.Pre_block_sparse.Facts.slices_S33_S1_0
    rw [← e0]
    exact IntOp.cmpi_eq.mp h
  · intro r hr d e hd hde he
    have h := congrFun h4 (ix3 ⟨r, hr⟩ d e)
    have e0 := slice_ptr x1 (o := 0) (r := r) (by omega) hr Cert.Pre_block_sparse.Facts.slices_S33_S32_0
    have e1 := slice_ptr x1 (o := 1) (r := r) (by omega) hr Cert.Pre_block_sparse.Facts.slices_S33_S32_1
    rw [Nat.zero_add] at e0; rw [Nat.add_comm] at e1
    have h' : IntOp.ori (~~~ (IntOp.andi (IntOp.andi (IntOp.cmpi .sle (ptrWord x1 r) (BitVec.ofNat 32 d.val))
        (IntOp.cmpi .slt (BitVec.ofNat 32 d.val) (BitVec.ofNat 32 e.val))) (IntOp.cmpi .slt (BitVec.ofNat 32 e.val) (ptrWord x1 (r + 1)))))
        (IntOp.cmpi .ne (x2 (ix1 d)) (x2 (ix1 e))) = 1#1 := by
      rw [← e0, ← e1]
      refine Eq.trans ?_ h
      simp only [Cert.Pre_block_sparse.fn, Cert.Pre_block_sparse.fn_part1, Cert.Pre_block_sparse.fn_part2]
      pointwise
    rw [IntOp.ori_eq_one, IntOp.not_eq_one, IntOp.andi_eq_one, IntOp.andi_eq_one, IntOp.cmpi_sle, IntOp.cmpi_slt, IntOp.cmpi_slt, IntOp.cmpi_ne] at h'
    refine h'.resolve_left fun hn => hn ?_
    have ka := key r hr
    have hp := BitVec.toInt_eq_toNat_cond (ptrWord x1 r); have hq := BitVec.toInt_eq_toNat_cond (ptrWord x1 (r + 1))
    have hd1 := BitVec.toInt_eq_toNat_cond (BitVec.ofNat 32 d.val); have he1 := BitVec.toInt_eq_toNat_cond (BitVec.ofNat 32 e.val)
    rw [BitVec.toNat_ofNat, Nat.mod_eq_of_lt (by have := d.isLt; omega)] at hd1
    rw [BitVec.toNat_ofNat, Nat.mod_eq_of_lt (by have := e.isLt; omega)] at he1
    have := d.isLt; have := e.isLt
    rw [if_pos (by omega)] at hp hq hd1 he1
    omega

end Cert.Proof
-- ==== Proof.SparseFacts.lean ====
/- The side conditions of the block-sparse precondition: the shapes its slices and broadcasts take. -/
module

public import proofs.«01_k».proof.Pre_block_sparse
public import Idealize.ShloMosaic.Lib.Affine
public import Idealize.ShloMosaic.Lib.Decide
public import Idealize.ShloMosaic.Lib.Exec

@[expose] public section

namespace Cert.Pre_block_sparse

open Idealize.ShloMosaic

/-- The precondition's side conditions hold. -/
instance facts : Cert.Pre_block_sparse.Facts where
  slices_S33_S32_0 := by decide
  bcast_S32_S32x1x1_0 := by decide
  slices_S33_S32_1 := by decide
  bcast_S717_S1x717x1_1 := by decide
  bcast_S717_S1x1x717_2 := by decide
  bcast_S32x1x1_S32x717x1_0_1_2 := by decide
  bcast_S1x717x1_S32x717x1_0_1_2 := by decide
  bcast_S1x717x1_S1x717x717_0_1_2 := by decide
  bcast_S1x1x717_S1x717x717_0_1_2 := by decide
  bcast_S32x717x1_S32x717x717_0_1_2 := by decide
  bcast_S1x717x717_S32x717x717_0_1_2 := by decide
  bcast_S1x1x717_S32x1x717_0_1_2 := by decide
  bcast_S32x1x1_S32x1x717_0_1_2 := by decide
  bcast_S32x1x717_S32x717x717_0_1_2 := by decide
  bcast_S_S32 := by decide
  bcast_S_S717 := by decide
  slices_S33_S1_0 := by decide
  bcast_S_S1 := by decide

end Cert.Pre_block_sparse
-- ==== Proof.KernelIdeal.Words.lean ====
/- The words of the row-pointer and column tables: what the kernel's scalar arithmetic makes of them.
   A row's first and last-plus-one entry are two words `v2`, `v5`; where they read as numbers `b ≤ e ≤ 717`, the inner loop
   makes `(e - b) / 2` trips (one pair of entries a trip), its remainder copy none, the odd entry is taken exactly where
   `e - b` is odd, and every access of the tables and of the blocks lies inside its buffer. -/
module

public import proofs.«01_k».proof.Proof.Gen.KernelIdeal
public import Idealize.ShloMosaic.Lib.Affine
public import Idealize.ShloMosaic.Lib.LoopRemainder

@[expose] public section

namespace Cert.Proof.KernelIdeal

open Cert.KernelIdeal Cert.KernelIdeal.Gen
open Idealize.ShloMosaic

/-- The two words of a row read as numbers in order and inside the table of entries. -/
structure RowWords (v2 v5 : BitVec 32) : Prop where
  le : v2.toNat ≤ v5.toNat
  top : v5.toNat ≤ 717

/-- The number of pairs of entries in a row of `n` entries, as the kernel computes it. -/
def pairsOf (n : BitVec 32) : BitVec 32 :=
  let c0 : BitVec 32 := 0#32
  let s := Scalar.subi (Scalar.extui (Scalar.cmpi .sgt n c0)) (Scalar.extui (Scalar.cmpi .slt n c0))
  let s2 := Scalar.subi (Scalar.extui (Scalar.cmpi .sgt 2#32 c0)) (Scalar.extui (Scalar.cmpi .slt 2#32 c0))
  let down := Scalar.andi (Scalar.cmpi .ne s s2) (Scalar.cmpi .ne (Scalar.remsi n 2#32) c0)
  let q := Scalar.divsi n 2#32
  Scalar.subi (Scalar.select down (Scalar.subi q 1#32) q) c0

/-- Whether a row of `n` entries has an odd one, as the kernel computes it. -/
def oddOf (n : BitVec 32) : BitVec 1 :=
  let c0 : BitVec 32 := 0#32
  let two := Scalar.select (Scalar.cmpi .eq 2#32 c0) 1#32 2#32
  let r := Scalar.remsi n two
  let wrap := Scalar.andi (Scalar.xori (Scalar.cmpi .slt r c0) (Scalar.cmpi .slt two c0)) (Scalar.cmpi .ne r c0)
  Scalar.cmpi .ne (Scalar.extui (Scalar.cmpi .eq (Scalar.select wrap (Scalar.addi r two) r) 1#32)) c0

theorem pairsOf_eq : ∀ n : Fin 718, pairsOf (BitVec.ofNat 32 n.val) = BitVec.ofNat 32 (n.val / 2) := by decide +kernel
theorem oddOf_eq : ∀ n : Fin 718, oddOf (BitVec.ofNat 32 n.val) = if n.val % 2 = 1 then 1#1 else 0#1 := by decide +kernel

theorem cond1_eq_oddOf (v2 v5 : BitVec 32) : k0_cond1 v2 v5 = oddOf (Scalar.subi v5 v2) := rfl
theorem t2_ub (v2 v5 : BitVec 32) :
    (k0_t2_loop v2 v5).ub = Scalar.addi 0#32 (Scalar.muli (Scalar.divsi (pairsOf (Scalar.subi v5 v2)) 1#32) 1#32) := rfl
theorem t3_lb (v2 v5 : BitVec 32) :
    (k0_t3_loop v2 v5).lb = Scalar.addi 0#32 (Scalar.muli (Scalar.divsi (pairsOf (Scalar.subi v5 v2)) 1#32) 1#32) := rfl
theorem t3_ub (v2 v5 : BitVec 32) : (k0_t3_loop v2 v5).ub = Scalar.addi 0#32 (pairsOf (Scalar.subi v5 v2)) := rfl

variable {v2 v5 : BitVec 32}

/-- The number of entries of the row. -/
theorem RowWords.sub (h : RowWords v2 v5) : Scalar.subi v5 v2 = BitVec.ofNat 32 (v5.toNat - v2.toNat) := by
  have h1 := h.le; have h2 := h.top
  apply BitVec.eq_of_toNat_eq
  simp only [Scalar.subi, IntOp.subi, BitVec.toNat_sub, BitVec.toNat_ofNat]
  omega

theorem RowWords.pairs (h : RowWords v2 v5) :
    pairsOf (Scalar.subi v5 v2) = BitVec.ofNat 32 ((v5.toNat - v2.toNat) / 2) := by
  have h1 := h.le; have h2 := h.top
  rw [h.sub]; exact pairsOf_eq ⟨v5.toNat - v2.toNat, by omega⟩

/-- The odd entry is taken exactly where the row's number of entries is odd. -/
theorem RowWords.cond (h : RowWords v2 v5) : k0_cond1 v2 v5 = 1#1 ↔ (v5.toNat - v2.toNat) % 2 = 1 := by
  have h1 := h.le; have h2 := h.top
  rw [cond1_eq_oddOf, h.sub, oddOf_eq ⟨v5.toNat - v2.toNat, by omega⟩]
  dsimp only
  split <;> simp_all

theorem RowWords.ub (h : RowWords v2 v5) : (k0_t2_loop v2 v5).ub = BitVec.ofNat 32 ((v5.toNat - v2.toNat) / 2) := by
  rw [t2_ub, Scalar.muli_divsi_one, h.pairs]
  simp [Scalar.addi, IntOp.addi]

/-- The inner loop makes one trip for each pair of entries of the row. -/
theorem RowWords.trips (h : RowWords v2 v5) : (k0_t2_loop v2 v5).trips = (v5.toNat - v2.toNat) / 2 := by
  have h1 := h.le; have h2 := h.top
  exact Affine.trips_eq (Affine.ofNat 0 ⟨rfl, by decide⟩)
    (by rw [h.ub]; exact Affine.ofNat ((v5.toNat - v2.toNat) / 2) ⟨rfl, by omega⟩) (Affine.ofNat 1 ⟨rfl, by decide⟩) _
    ⟨by decide, by omega⟩

theorem RowWords.ok (h : RowWords v2 v5) : (k0_t2_loop v2 v5).OK := by
  have h1 := h.le; have h2 := h.top
  exact Affine.ok (Affine.ofNat 0 ⟨rfl, by decide⟩)
    (by rw [h.ub]; exact Affine.ofNat ((v5.toNat - v2.toNat) / 2) ⟨rfl, by omega⟩) (Affine.ofNat 1 ⟨rfl, by decide⟩)
    ⟨by decide, by omega⟩

/-- The remainder copy of the inner loop makes no trip. -/
theorem t3_trips (v2 v5 : BitVec 32) : (k0_t3_loop v2 v5).trips = 0 := Scf.rem_trips 0#32 (pairsOf (Scalar.subi v5 v2))
theorem t3_ok (v2 v5 : BitVec 32) : (k0_t3_loop v2 v5).OK := Scf.rem_ok 0#32 (pairsOf (Scalar.subi v5 v2))
theorem t3_none (v2 v5 : BitVec 32) (k : Fin (k0_t3_loop v2 v5).trips) : False :=
  Nat.not_lt_zero k.val (lt_of_lt_of_eq k.isLt (t3_trips v2 v5))

/-- The first entry of pair `k`. -/
theorem RowWords.fst (h : RowWords v2 v5) (k : Fin (k0_t2_loop v2 v5).trips) :
    (Scalar.addi v2 (Scalar.muli 2#32 (Scf.iv 0#32 1#32 k))).toNat = v2.toNat + 2 * k.val := by
  have h1 := h.le; have h2 := h.top; have hk := lt_of_lt_of_eq k.isLt h.trips
  rw [Scf.iv_eq_ofInt]
  simp only [Scalar.addi, IntOp.addi, Scalar.muli, IntOp.muli, BitVec.toNat_add, BitVec.toNat_mul]
  have : (BitVec.ofInt 32 ((0#32 : BitVec 32).toInt + (k.val : Int) * (1#32 : BitVec 32).toInt)).toNat = k.val := by
    simp [BitVec.toNat_ofInt]; omega
  rw [this]
  simp only [BitVec.toNat_ofNat]
  omega

/-- The second entry of pair `k`. -/
theorem RowWords.snd (h : RowWords v2 v5) (k : Fin (k0_t2_loop v2 v5).trips) :
    (Scalar.addi (Scalar.addi v2 (Scalar.muli 2#32 (Scf.iv 0#32 1#32 k))) 1#32).toNat = v2.toNat + 2 * k.val + 1 := by
  have h1 := h.le; have h2 := h.top; have hk := lt_of_lt_of_eq k.isLt h.trips
  have hf := h.fst k
  rw [Scalar.addi, IntOp.addi, BitVec.toNat_add, hf]
  simp only [BitVec.toNat_ofNat]
  omega

theorem RowWords.off3 (h : RowWords v2 v5) (k) : k0_off3 v2 v5 k = ![v2.toNat + 2 * k.val] := congrArg (fun n => ![n]) (h.fst k)
theorem RowWords.off5 (h : RowWords v2 v5) (k) : k0_off5 v2 v5 k = ![v2.toNat + 2 * k.val + 1] := congrArg (fun n => ![n]) (h.snd k)
theorem RowWords.off7 (h : RowWords v2 v5) (k) : k0_off7 v2 v5 k = ![v2.toNat + 2 * k.val] := congrArg (fun n => ![n]) (h.fst k)
theorem RowWords.off8 (h : RowWords v2 v5) (k) : k0_off8 v2 v5 k = ![v2.toNat + 2 * k.val, 0, 0] := congrArg (fun n => ![n, 0, 0]) (h.fst k)
theorem RowWords.off9 (h : RowWords v2 v5) (k) : k0_off9 v2 v5 k = ![v2.toNat + 2 * k.val + 1] := congrArg (fun n => ![n]) (h.snd k)
theorem RowWords.off10 (h : RowWords v2 v5) (k) : k0_off10 v2 v5 k = ![v2.toNat + 2 * k.val + 1, 0, 0] := congrArg (fun n => ![n, 0, 0]) (h.snd k)

/-- The last entry of a row that has one. -/
theorem last_toNat (h0 : 0 < v5.toNat) : (Scalar.subi v5 1#32).toNat = v5.toNat - 1 := by
  simp only [Scalar.subi, IntOp.subi, BitVec.toNat_sub, BitVec.toNat_ofNat]
  have := v5.isLt
  omega

theorem off19 (h0 : 0 < v5.toNat) : k0_off19 v5 = ![v5.toNat - 1] := congrArg (fun n => ![n]) (last_toNat h0)
theorem off21 (h0 : 0 < v5.toNat) : k0_off21 v5 = ![v5.toNat - 1] := congrArg (fun n => ![n]) (last_toNat h0)
theorem off22 (h0 : 0 < v5.toNat) : k0_off22 v5 = ![v5.toNat - 1, 0, 0] := congrArg (fun n => ![n, 0, 0]) (last_toNat h0)

/-- An entry inside the table of 717 words. -/
theorem inb1 {n : ℕ} (h : n < 717) : ∀ a, (![n] : Fin 1 → ℕ) a + S1.size a ≤ S717.size a := by
  intro a; fin_cases a; simp; omega

/-- An entry's block inside the 717 blocks. -/
theorem inb3 {n : ℕ} (h : n < 717) : ∀ a, (![n, 0, 0] : Fin 3 → ℕ) a + S1x128x128.size a ≤ S717x128x128.size a := by
  intro a; fin_cases a <;> simp <;> omega

/-- The side condition of a row holds of every row's words. -/
theorem RowWords.chk1 (h : RowWords v2 v5) : k0_chk1 v2 v5 := by
  have h1 := h.le; have h2 := h.top; have ht := h.trips
  have hc : k0_cond1 v2 v5 = 1#1 → 0 < v5.toNat := fun hc => by have := h.cond.mp hc; omega
  unfold k0_chk1
  refine ⟨h.ok, fun k => ?_, fun k => ?_, fun k => ?_, fun k => ?_, fun k => ?_, fun k => ?_, t3_ok _ _,
    fun k => (t3_none _ _ k).elim, fun k => (t3_none _ _ k).elim, fun k => (t3_none _ _ k).elim,
    fun k => (t3_none _ _ k).elim, fun k => (t3_none _ _ k).elim, fun k => (t3_none _ _ k).elim,
    fun hh => ?_, fun hh => ?_, fun hh => ?_⟩
  · rw [h.off3]; exact inb1 (by have := k.isLt; omega)
  · rw [h.off5]; exact inb1 (by have := k.isLt; omega)
  · rw [h.off7]; exact inb1 (by have := k.isLt; omega)
  · rw [h.off8]; exact inb3 (by have := k.isLt; omega)
  · rw [h.off9]; exact inb1 (by have := k.isLt; omega)
  · rw [h.off10]; exact inb3 (by have := k.isLt; omega)
  · rw [off19 (hc hh)]; exact inb1 (by have := hc hh; omega)
  · rw [off21 (hc hh)]; exact inb1 (by have := hc hh; omega)
  · rw [off22 (hc hh)]; exact inb3 (by have := hc hh; omega)

/-- A column word's first column of `x`. -/
theorem mul128 {w : BitVec 32} (h : w.toNat < 112) : (Scalar.muli w 128#32).toNat = 128 * w.toNat := by
  simp only [Scalar.muli, IntOp.muli, BitVec.toNat_mul, BitVec.toNat_ofNat]
  omega

theorem off4 {w : BitVec 32} (h : w.toNat < 112) : k0_off4 w = ![0, 128 * w.toNat] := congrArg (fun n => ![0, n]) (mul128 h)
theorem off6 {w : BitVec 32} (h : w.toNat < 112) : k0_off6 w = ![0, 128 * w.toNat] := congrArg (fun n => ![0, n]) (mul128 h)
theorem off20 {w : BitVec 32} (h : w.toNat < 112) : k0_off20 w = ![0, 128 * w.toNat] := congrArg (fun n => ![0, n]) (mul128 h)

/-- A column word's 128 columns inside `x`'s block. -/
theorem inb2 {n : ℕ} (h : n < 112) : ∀ a, (![0, 128 * n] : Fin 2 → ℕ) a + S512x128.size a ≤ S512x14336.size a := by
  intro a; fin_cases a <;> simp <;> omega

theorem chk2 {w : BitVec 32} (h : w.toNat < 112) : k0_chk2 w := by
  unfold k0_chk2
  refine ⟨⟨w.toNat, mul128 h⟩, ?_⟩
  rw [off4 h]; exact inb2 h
theorem chk3 {w : BitVec 32} (h : w.toNat < 112) : k0_chk3 w := by
  unfold k0_chk3
  refine ⟨⟨w.toNat, mul128 h⟩, ?_⟩
  rw [off6 h]; exact inb2 h
theorem chk6 {v2 v5 w : BitVec 32} (h : w.toNat < 112) : k0_chk6 v2 v5 w := by
  unfold k0_chk6
  refine ⟨fun _ => ⟨w.toNat, mul128 h⟩, fun _ => ?_⟩
  rw [off20 h]; exact inb2 h

end Cert.Proof.KernelIdeal
-- ==== Proof.KernelIdeal.Readers.lean ====
/- What the kernel computes for one block of x, as plain functions of the arrays it reads.
   The readers below (a column block of x, an entry's word, scale and block) take any number; where the number names an
   entry or a column block they are what a load at the kernel's offsets reads. `pairAcc` is a row's accumulator after some
   pairs of entries, `rowAcc` after all its entries, `outBlk` the row's block of the output. -/
module

public import proofs.«01_k».proof.Proof.KernelIdeal.Words
public import proofs.«01_k».proof.Proof.Gen.KernelIdeal.Loops
public import Idealize.ShloMosaic.Lib.Pipeline.FrameBody
public import Idealize.ShloMosaic.Lib.Pipeline.Value
public import Idealize.ShloMosaic.Lib.Pointwise.Index
public import Idealize.ShloMosaic.Lib.WritesUnit
public import Idealize.ShloMosaic.Lib.VecWindow

@[expose] public section

noncomputable section

namespace Cert.Proof.KernelIdeal

open Cert.KernelIdeal Cert.KernelIdeal.Gen
open Idealize.ShloMosaic

variable {F : FTy → Type} [FloatOps F]

/-- The index of entry `n` in a table of the entries. -/
def ent (n : ℕ) : S717.Idx := ix1 ⟨n % 717, Nat.mod_lt _ (by decide)⟩

/-- Column block `w` of the block of x. -/
def colBlk (x4 : Vec F S512x14336 .bf16) (w : ℕ) : Vec F S512x128 .bf16 :=
  fun i => x4 (ix2 (i 0) ⟨(128 * w + (i 1).val) % 14336, Nat.mod_lt _ (by decide)⟩)

/-- The weight block of entry `n`. -/
def entBlk (x5 : Vec F S717x128x128 .fp8e4m3) (n : ℕ) : Vec F S1x128x128 .fp8e4m3 :=
  fun i => x5 (ix3 ⟨n % 717, Nat.mod_lt _ (by decide)⟩ (i 1) (i 2))

/-- The column block of entry `n`, as a number. -/
def colOf (x2 : Vec F S717 .i32) (n : ℕ) : ℕ := BitVec.toNat (w := 32) (x2 (ent n))

/-- Entry `r` of the row-pointer table, as a number. -/
def ptrOf (x1 : Vec F S33 .i32) (r : ℕ) : ℕ := BitVec.toNat (w := 32) (x1 (ix1 ⟨r % 33, Nat.mod_lt _ (by decide)⟩))

/-- The accumulator `a` after the pair of entries `n`, `n + 1`. -/
def pairStep (x2 : Vec F S717 .i32) (x3 : Vec F S717 .f32) (x4 : Vec F S512x14336 .bf16) (x5 : Vec F S717x128x128 .fp8e4m3)
    (n : ℕ) (a : Vec F S512x128 .f32) : Vec F S512x128 .f32 :=
  k0_pay6 (k0_pay3 (colBlk x4 (colOf x2 n)) (colBlk x4 (colOf x2 (n + 1))) (x3 (ent n)) (entBlk x5 n)
    (x3 (ent (n + 1))) (entBlk x5 (n + 1)) a)

/-- The accumulator `a` after the odd entry `n`. -/
def oddStep (x2 : Vec F S717 .i32) (x3 : Vec F S717 .f32) (x4 : Vec F S512x14336 .bf16) (x5 : Vec F S717x128x128 .fp8e4m3)
    (n : ℕ) (a : Vec F S512x128 .f32) : Vec F S512x128 .f32 :=
  k0_pay1 a (colBlk x4 (colOf x2 n)) (x3 (ent n)) (entBlk x5 n)

/-- The accumulator `a` after `p` pairs of entries, the first of them entry `b`. -/
def pairAcc (x2 : Vec F S717 .i32) (x3 : Vec F S717 .f32) (x4 : Vec F S512x14336 .bf16) (x5 : Vec F S717x128x128 .fp8e4m3)
    (a : Vec F S512x128 .f32) (b : ℕ) : ℕ → Vec F S512x128 .f32
  | 0 => a
  | p + 1 => pairStep x2 x3 x4 x5 (b + 2 * p) (pairAcc x2 x3 x4 x5 a b p)

/-- A row's accumulator after all its entries, from `b` to below `e`. -/
def rowAcc (x2 : Vec F S717 .i32) (x3 : Vec F S717 .f32) (x4 : Vec F S512x14336 .bf16) (x5 : Vec F S717x128x128 .fp8e4m3)
    (b e : ℕ) : Vec F S512x128 .f32 :=
  if (e - b) % 2 = 1 then oddStep x2 x3 x4 x5 (e - 1) (pairAcc x2 x3 x4 x5 k0_pay5 b ((e - b) / 2))
  else pairAcc x2 x3 x4 x5 k0_pay5 b ((e - b) / 2)

/-- Row `r`'s block of the output. -/
def outBlk (x1 : Vec F S33 .i32) (x2 : Vec F S717 .i32) (x3 : Vec F S717 .f32) (x4 : Vec F S512x14336 .bf16)
    (x5 : Vec F S717x128x128 .fp8e4m3) (r : ℕ) : Vec F S512x128 .bf16 :=
  k0_pay2 (rowAcc x2 x3 x4 x5 (ptrOf x1 r) (ptrOf x1 (r + 1)))

/-- The block of the output of one block of x: column block `r` is row `r`'s. -/
def outWin (x1 : Vec F S33 .i32) (x2 : Vec F S717 .i32) (x3 : Vec F S717 .f32) (x4 : Vec F S512x14336 .bf16)
    (x5 : Vec F S717x128x128 .fp8e4m3) : Vec F S512x4096 .bf16 :=
  fun i => outBlk x1 x2 x3 x4 x5 ((i 1).val / 128) (ix2 (i 0) ⟨(i 1).val % 128, Nat.mod_lt _ (by decide)⟩)

/-! ## A load at the kernel's offsets -/

/-- A load of one word of a table of the entries. -/
theorem ld_word {e : EltTy} (x : Vec F S717 e) {off : Fin 1 → ℕ} {n : ℕ} (h : off = ![n]) (hn : n < 717) (inb) (j) :
    View.ld (Val := Elt F) x (Rect.unit (s := S717) off S1.size inb) j = x (ent n) := by
  subst h
  refine congrArg x (funext fun a => Fin.ext ?_)
  have h0 : (j 0).val < 1 := (j 0).isLt
  fin_cases a
  show n + 1 * (j 0).val = n % 717
  rw [Nat.mod_eq_of_lt hn]; omega

/-- A load of one row pointer. -/
theorem ld_ptr (x : Vec F S33 .i32) {off : Fin 1 → ℕ} {n : ℕ} (h : off = ![n]) (hn : n < 33) (inb) (j) :
    View.ld (Val := Elt F) x (Rect.unit (s := S33) off S1.size inb) j = x (ix1 ⟨n % 33, Nat.mod_lt _ (by decide)⟩) := by
  subst h
  refine congrArg x (funext fun a => Fin.ext ?_)
  have h0 : (j 0).val < 1 := (j 0).isLt
  fin_cases a
  show n + 1 * (j 0).val = n % 33
  rw [Nat.mod_eq_of_lt hn]; omega

/-- A load of one entry's block. -/
theorem ld_blk (x : Vec F S717x128x128 .fp8e4m3) {off : Fin 3 → ℕ} {n : ℕ} (h : off = ![n, 0, 0]) (hn : n < 717) (inb) :
    View.ld (Val := Elt F) x (Rect.unit (s := S717x128x128) off S1x128x128.size inb) = entBlk x n := by
  subst h
  funext j
  refine congrArg x (funext fun a => Fin.ext ?_)
  have h0 : (j 0).val < 1 := (j 0).isLt
  fin_cases a
  · show n + 1 * (j 0).val = n % 717
    rw [Nat.mod_eq_of_lt hn]; omega
  · show 0 + 1 * (j 1).val = (j 1).val; omega
  · show 0 + 1 * (j 2).val = (j 2).val; omega

/-- A load of one column block of x. -/
theorem ld_col (x : Vec F S512x14336 .bf16) {off : Fin 2 → ℕ} {n : ℕ} (h : off = ![0, 128 * n]) (hn : n < 112) (inb) :
    View.ld (Val := Elt F) x (Rect.unit (s := S512x14336) off S512x128.size inb) = colBlk x n := by
  subst h
  funext j
  refine congrArg x (funext fun a => Fin.ext ?_)
  have h1 : (j 1).val < 128 := (j 1).isLt
  fin_cases a
  · show 0 + 1 * (j 0).val = (j 0).val; omega
  · show 128 * n + 1 * (j 1).val = (128 * n + (j 1).val) % 14336
    rw [Nat.mod_eq_of_lt (by omega)]; omega

/-- Every word of the column table, read as a number, names one of the 112 column blocks. -/
abbrev ColsOK (x2 : Vec F S717 .i32) : Prop := ∀ e, BitVec.toNat (w := 32) (x2 e) < 112

/-- The column block that the first entry of a pair names. -/
theorem ld_col4 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off4 w) S512x128.size inb) = colBlk x4 (colOf x2 n) := by
  subst hw; exact ld_col x4 (off4 (hcol _)) (hcol _) inb

/-- The column block that the second entry of a pair names. -/
theorem ld_col6 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off6 w) S512x128.size inb) = colBlk x4 (colOf x2 n) := by
  subst hw; exact ld_col x4 (off6 (hcol _)) (hcol _) inb

/-- The column block that the entry left over names. -/
theorem ld_col20 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off20 w) S512x128.size inb) = colBlk x4 (colOf x2 n) := by
  subst hw; exact ld_col x4 (off20 (hcol _)) (hcol _) inb

/-- Equal operands, equal step by a pair. -/
theorem pay3_congr {a a' b b' : Vec F S512x128 .bf16} {s s' t t' : Elt F .f32} {p p' q q' : Vec F S1x128x128 .fp8e4m3}
    {v v' : Vec F S512x128 .f32} (ha : a = a') (hb : b = b') (hs : s = s') (hp : p = p') (ht : t = t') (hq : q = q') (hv : v = v') :
    k0_pay3 a b s p t q v = k0_pay3 a' b' s' p' t' q' v' := by
  subst ha; subst hb; subst hs; subst ht; subst hp; subst hq; subst hv; rfl

/-- Equal operands, equal step by one entry. -/
theorem pay1_congr {a a' : Vec F S512x128 .bf16} {s s' : Elt F .f32} {p p' : Vec F S1x128x128 .fp8e4m3}
    {v v' : Vec F S512x128 .f32} (hv : v = v') (ha : a = a') (hs : s = s') (hp : p = p') :
    k0_pay1 v a s p = k0_pay1 v' a' s' p' := by
  subst ha; subst hs; subst hp; subst hv; rfl

/-- Every row's first and last-plus-one words read as numbers in order and inside the table of entries. -/
abbrev RowsOK (x1 : Vec F S33 .i32) : Prop :=
  ∀ r < 32, RowWords (x1 (ix1 ⟨r % 33, Nat.mod_lt _ (by decide)⟩)) (x1 (ix1 ⟨(r + 1) % 33, Nat.mod_lt _ (by decide)⟩))

/-- The accumulator read after a store of all of it. -/
theorem read_acc {κ : Kind} {sp : Space} (v : View sig κ sp S512x128 .f32) (f : v.ty.Contents (Elt F)) (inb)
    (w : Vec F S512x128 .f32) (L : List (View.Piece (Elt F) S512x128 .f32)) :
    v.read (Elt F) (v.writes (Elt F) f (⟨Rect.unit ![0, 0] S512x128.size inb, w⟩ :: L)) = w := by
  funext y
  exact View.read_writes_cons_unit_of_mem v f inb w L y y rfl (fun a => by fin_cases a <;> exact (Nat.zero_add _).symm)

end Cert.Proof.KernelIdeal
-- ==== Proof.KernelIdeal.Trip.lean ====
/- The loop over the pairs of entries of one row of blocks: one trip adds one pair to the accumulator, and the loop adds them all. -/
module

public import proofs.«01_k».proof.Proof.KernelIdeal.Readers
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A core's whole buffer behind a memref, at given contents. -/
abbrev held (c : Dev nD) {sp : Space} {s : Shape} {e : EltTy} (m : Memref sig .tc sp s e)
    (f : BufTy.Contents (Elt F) m.view.ty) : sProp 𝕄 :=
  m.view.loc (c : Thread nD τ) ↦[m.view.set]{fullShare} f

/-- The same for a prefetched table, at the half share the body gets: it may load the words and store none. -/
abbrev tbl (c : Dev nD) {sp : Space} {s : Shape} {e : EltTy} (m : Memref sig .tc sp s e)
    (f : BufTy.Contents (Elt F) m.view.ty) : sProp 𝕄 :=
  m.view.loc (c : Thread nD τ) ↦[m.view.set]{fullShare.right} f

/-- One trip: it reads the two entries' words, scales and blocks and the columns of x they name, and adds their products to the
    accumulator. The reads are in range because the table words are. -/
theorem trip2 (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (c0_i32 c1_i32 : BitVec 32) (k0_t1 : Fin k0_t1_loop.trips) (v2 v5 : BitVec 32) (hw1 : k0_chk1 v2 v5) (hw : RowWords v2 v5)
    (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty)
    (hcol : ColsOK (F := F) (arg2.view.read (Elt F) f2)) (k : Fin (k0_t2_loop v2 v5).trips) (acc : BitVec 32) :
    iprop(tbl (F := F) c arg2 f2
      ∗ held (F := F) c arg3 f3
      ∗ held (F := F) c arg4 f4
      ∗ held (F := F) c arg5 f5
      ∗ held (F := F) c arg7 f7)
    ⊢ wp Idealize.ShloMosaic.frame (wpE (defs₀ (F := F)) Variants.none (c : Thread nD τ) none) Set.univ
        (k0_t2_body (F := F) i arg1 harg1 arg2 harg2 arg3 harg3 arg4 harg4 arg5 harg5 arg6 harg6 arg7 harg7 c0_i32 c1_i32 k0_t1 v2 v5 hw1 k acc)
        (fun _ => iprop(tbl (F := F) c arg2 f2
      ∗ held (F := F) c arg3 f3
      ∗ held (F := F) c arg4 f4
      ∗ held (F := F) c arg5 f5
      ∗ (∃ f, held (F := F) c arg7 f
          ∗ ⌜arg7.view.read (Elt F) f = pairStep (arg2.view.read (Elt F) f2) (arg3.view.read (Elt F) f3) (arg4.view.read (Elt F) f4)
              (arg5.view.read (Elt F) f5) (v2.toNat + 2 * k.val) (arg7.view.read (Elt F) f7)⌝))) := by
  have hk : k.val < (v5.toNat - v2.toNat) / 2 := lt_of_lt_of_eq k.isLt hw.trips
  have h1 := hw.le
  have h2 := hw.top
  unfold k0_t2_body
  simp only [k0_part1_eq_skeleton]; unfold k0_part1_skel
  iintro ⟨H2, H3, H4, H5, H7⟩
  sl_exec (disch := (first | exact chk2 (hcol _) | exact chk3 (hcol _)))
  sl_step
  iframe H2 H3 H4 H5
  iexists _
  iframe H7
  ipureintro
  refine (read_acc arg7.view f7 _ _ []).trans ?_
  exact congrArg k0_pay6 (pay3_congr (ld_col4 _ hcol (ld_word _ (hw.off3 k) (by omega) _ _) _)
    (ld_col6 _ hcol (ld_word _ (hw.off5 k) (by omega) _ _) _) (ld_word _ (hw.off7 k) (by omega) _ _)
    (ld_blk _ (hw.off8 k) (by omega) _) (ld_word _ (hw.off9 k) (by omega) _ _) (ld_blk _ (hw.off10 k) (by omega) _)
    (View.readAt_full _ _ _))

set_option warn.classDefReducibility false in
/-- The loop over a row's pairs of entries: before trip `k` the accumulator has taken the first `k` pairs. -/
@[sl_loop] def loopInv2 (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (c0_i32 c1_i32 : BitVec 32) (k0_t1 : Fin k0_t1_loop.trips) (v2 v5 : BitVec 32) (hw1 : k0_chk1 v2 v5)
    (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (init : BitVec 32) :
    LoopInvTy_k0_t2 (F := F) Unit ℕ (UR sig nD τ) ℕ Variants.none c none Set.univ i arg1 harg1 arg2 harg2 arg3 harg3 arg4 harg4 arg5 harg5
      arg6 harg6 arg7 harg7 c0_i32 c1_i32 k0_t1 v2 v5 hw1 init where
  inv k _ := iprop(tbl (F := F) c arg2 f2 ∗ held (F := F) c arg3 f3 ∗ held (F := F) c arg4 f4 ∗ held (F := F) c arg5 f5
    ∗ (∃ f, held (F := F) c arg7 f
      ∗ ⌜arg7.view.read (Elt F) f = pairAcc (arg2.view.read (Elt F) f2) (arg3.view.read (Elt F) f3) (arg4.view.read (Elt F) f4)
          (arg5.view.read (Elt F) f5) (arg7.view.read (Elt F) f7) v2.toNat k⌝)
    ∗ ⌜RowWords v2 v5⌝ ∗ ⌜ColsOK (F := F) (arg2.view.read (Elt F) f2)⌝)
  step k acc := by
    iintro ⟨H2, H3, H4, H5, ⟨%f, H7, %hf⟩, %hw, %hcol⟩
    have post : ∀ _a : BitVec 32, iprop(tbl (F := F) c arg2 f2 ∗ held (F := F) c arg3 f3 ∗ held (F := F) c arg4 f4 ∗ held (F := F) c arg5 f5
          ∗ (∃ f', held (F := F) c arg7 f'
            ∗ ⌜arg7.view.read (Elt F) f' = pairStep (arg2.view.read (Elt F) f2) (arg3.view.read (Elt F) f3) (arg4.view.read (Elt F) f4)
              (arg5.view.read (Elt F) f5) (v2.toNat + 2 * k.val) (arg7.view.read (Elt F) f)⌝))
        ⊢ iprop(tbl (F := F) c arg2 f2 ∗ held (F := F) c arg3 f3 ∗ held (F := F) c arg4 f4 ∗ held (F := F) c arg5 f5
          ∗ (∃ f', held (F := F) c arg7 f'
            ∗ ⌜arg7.view.read (Elt F) f' = pairAcc (arg2.view.read (Elt F) f2) (arg3.view.read (Elt F) f3) (arg4.view.read (Elt F) f4)
              (arg5.view.read (Elt F) f5) (arg7.view.read (Elt F) f7) v2.toNat (k.val + 1)⌝)
          ∗ ⌜RowWords v2 v5⌝ ∗ ⌜ColsOK (F := F) (arg2.view.read (Elt F) f2)⌝) := fun _ => by
      iintro ⟨H2, H3, H4, H5, ⟨%g, H7, %hg⟩⟩
      iframe H2 H3 H4 H5
      isplitl
      · iexists g
        iframe H7
        ipureintro
        rw [hg, hf]; rfl
      · ipureintro
        exact ⟨hw, hcol⟩
    iapply (trip2 c i arg1 harg1 arg2 harg2 arg3 harg3 arg4 harg4 arg5 harg5 arg6 harg6 arg7 harg7 c0_i32 c1_i32 k0_t1 v2 v5 hw1 hw f2 f3 f4 f5 f hcol k acc).trans ((wp _ _ _ _).mono post)
    iframe

end Cert.Proof.KernelIdeal
-- ==== Proof.KernelIdeal.Row.lean ====
/- One row of blocks: the accumulator is cleared, takes the row's pairs of entries and the entry left over, and is stored as the row's
   column block of the output. -/
module

public import proofs.«01_k».proof.Proof.KernelIdeal.Trip
public import Idealize.ShloMosaic.Lib.LoopRemainder

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The offsets of a load of a whole matrix. -/
theorem zero2 : (![0, 0] : Fin 2 → ℕ) = fun _ => 0 := by decide

/-- Equal bounds, equal accumulators. -/
theorem pairAcc_congr {x2 : Vec F S717 .i32} {x3 : Vec F S717 .f32} {x4 : Vec F S512x14336 .bf16} {x5 : Vec F S717x128x128 .fp8e4m3}
    {a a' : Vec F S512x128 .f32} {b b' p p' : ℕ} (ha : a = a') (hb : b = b') (hp : p = p') :
    pairAcc x2 x3 x4 x5 a b p = pairAcc x2 x3 x4 x5 a' b' p' := by
  subst ha; subst hb; subst hp; rfl

/-- The output's block after a row's store: column block `k` is what was stored, the others are as before. -/
theorem read_out (v : View sig .tc .vmem S512x4096 .bf16) (f : v.ty.Contents (Elt F)) (k : Fin k0_t1_loop.trips) (inb)
    (w : Vec F S512x128 .bf16) (y : S512x4096.Idx) :
    v.read (Elt F) (v.writes (Elt F) f [⟨Rect.unit (k0_off23 k) S512x128.size inb, w⟩]) y
      = if (y 1).val / 128 = k.val then w (ix2 (y 0) ⟨(y 1).val % 128, Nat.mod_lt _ (by decide)⟩) else v.read (Elt F) f y := by
  split
  · rename_i h
    refine View.read_writes_cons_unit_of_mem v f inb w [] y (ix2 (y 0) ⟨(y 1).val % 128, Nat.mod_lt _ (by decide)⟩) (k0_off23_eq k) (fun a => ?_)
    fin_cases a
    · exact (Nat.zero_add _).symm
    · show (y 1).val = 128 * k.val + (y 1).val % 128
      omega
  · rename_i h
    refine View.read_writes_cons_unit_of_not_mem v f inb w [] y (k0_off23_eq k) 1 ?_
    show (y 1).val < 128 * k.val ∨ 128 * k.val + 128 ≤ (y 1).val
    omega

/-- One row of blocks: from any accumulator it leaves the row's block in the output, and every other column block as it was. -/
theorem row (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (k : Fin k0_t1_loop.trips)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2))
    (hrow : RowsOK (F := F) (arg1.view.read (Elt F) f1)) :
    iprop(tbl (F := F) c arg1 f1 ∗ tbl (F := F) c arg2 f2 ∗ held (F := F) c arg3 f3 ∗ held (F := F) c arg4 f4 ∗ held (F := F) c arg5 f5
      ∗ held (F := F) c arg6 f6 ∗ held (F := F) c arg7 f7)
    ⊢ wp Idealize.ShloMosaic.frame (wpE (defs₀ (F := F)) Variants.none (c : Thread nD τ) none) Set.univ
        (k0_t1_body (F := F) i arg1 harg1 arg2 harg2 arg3 harg3 arg4 harg4 arg5 harg5 arg6 harg6 arg7 harg7 k ())
        (fun _ => iprop(tbl (F := F) c arg1 f1 ∗ tbl (F := F) c arg2 f2 ∗ held (F := F) c arg3 f3 ∗ held (F := F) c arg4 f4 ∗ held (F := F) c arg5 f5
      ∗ (∃ g, held (F := F) c arg6 g ∗ ⌜∀ y, arg6.view.read (Elt F) g y = if (y 1).val / 128 = k.val then
          outBlk (arg1.view.read (Elt F) f1) (arg2.view.read (Elt F) f2) (arg3.view.read (Elt F) f3) (arg4.view.read (Elt F) f4)
            (arg5.view.read (Elt F) f5) k.val (ix2 (y 0) ⟨(y 1).val % 128, Nat.mod_lt _ (by decide)⟩)
          else arg6.view.read (Elt F) f6 y⌝)
      ∗ ∃ f, held (F := F) c arg7 f)) := by
  have hS1 : 0 < S1.numel := by decide
  have hw : RowWords (View.readAt (Elt F) arg1.view (Rect.unit (s := S33) (k0_off1 k) S1.size (k0_off1_inb k)).toLoadRect f1 (Shape.Idx.first hS1))
      (View.readAt (Elt F) arg1.view (Rect.unit (s := S33) (k0_off2 k) S1.size (k0_off2_inb k)).toLoadRect f1 (Shape.Idx.first hS1)) := by
    have hk : k.val < 32 := k.isLt
    have e1 := ld_ptr (arg1.view.read (Elt F) f1) (k0_off1_eq k) (by omega) (k0_off1_inb k) (Shape.Idx.first hS1)
    have e2 := ld_ptr (arg1.view.read (Elt F) f1) (k0_off2_eq k) (by omega) (k0_off2_inb k) (Shape.Idx.first hS1)
    have h := hrow k.val hk
    rw [← e1, ← e2] at h
    exact h
  have hk1 := hw.chk1
  have hk : k.val < 32 := k.isLt
  have e1 : BitVec.toNat (w := 32) (View.readAt (Elt F) arg1.view (Rect.unit (s := S33) (k0_off1 k) S1.size (k0_off1_inb k)).toLoadRect f1 (Shape.Idx.first hS1))
      = ptrOf (arg1.view.read (Elt F) f1) k.val := congrArg BitVec.toNat (ld_ptr _ (k0_off1_eq k) (by omega) (k0_off1_inb k) _)
  have e2 : BitVec.toNat (w := 32) (View.readAt (Elt F) arg1.view (Rect.unit (s := S33) (k0_off2 k) S1.size (k0_off2_inb k)).toLoadRect f1 (Shape.Idx.first hS1))
      = ptrOf (arg1.view.read (Elt F) f1) (k.val + 1) := congrArg BitVec.toNat (ld_ptr _ (k0_off2_eq k) (by omega) (k0_off2_inb k) _)
  have htr := hw.trips
  have hcond := hw.cond
  have hle := hw.le
  have htop := hw.top
  by_cases hodd : k0_cond1 (View.readAt (Elt F) arg1.view (Rect.unit (s := S33) (k0_off1 k) S1.size (k0_off1_inb k)).toLoadRect f1 (Shape.Idx.first hS1))
      (View.readAt (Elt F) arg1.view (Rect.unit (s := S33) (k0_off2 k) S1.size (k0_off2_inb k)).toLoadRect f1 (Shape.Idx.first hS1)) = 1#1
  · unfold k0_t1_body
    simp only [k0_part3_eq_skeleton, k0_part3_skel, bind_assoc, pure_bind]
    iintro ⟨H1, H2, H3, H4, H5, H6, H7⟩
    sl_exec (disch := (first | exact hodd | exact chk6 (hcol _)))
    sl_step
    have hacc : arg7.view.read (Elt F) fL0 = pairAcc (arg2.view.read (Elt F) f2) (arg3.view.read (Elt F) f3) (arg4.view.read (Elt F) f4)
        (arg5.view.read (Elt F) f5) k0_pay5 (ptrOf (arg1.view.read (Elt F) f1) k.val)
        ((ptrOf (arg1.view.read (Elt F) f1) (k.val + 1) - ptrOf (arg1.view.read (Elt F) f1) k.val) / 2) :=
      hL5.trans (pairAcc_congr (read_acc _ _ _ _ _) e1 (htr.trans (by rw [e1, e2])))
    clear hL5
    iframe H1 H2 H3 H4 H5
    isplitl [H6]
    · iexists _
      iframe H6
      ipureintro
      intro y
      refine (read_out arg6.view f6 k _ _ y).trans ?_
      split
      · unfold outBlk
        refine congrFun (congrArg k0_pay2 ?_) _
        unfold rowAcc
        rw [if_pos (by rw [← e1, ← e2]; exact hcond.mp hodd)]
        have h0 : 0 < BitVec.toNat (w := 32) (View.readAt (Elt F) arg1.view (Rect.unit (s := S33) (k0_off2 k) S1.size (k0_off2_inb k)).toLoadRect f1 (Shape.Idx.first hS1)) := by
          have := hcond.mp hodd; omega
        rw [← e2]
        refine (View.readCov_unit_zero (S := S512x128) (off := ![0, 0]) arg7.view zero2 _ _).trans ?_
        rw [e2, ← hacc]
        rw [← e2]
        exact pay1_congr (View.readAt_full _ _ _)
          (ld_col20 _ hcol (ld_word _ (off19 h0) (by omega) _ _) _) (ld_word _ (off21 h0) (by omega) _ _)
          (ld_blk _ (off22 h0) (by omega) _)
      · rfl
    · iexists _
      iframe H7
  · unfold k0_t1_body
    simp only [k0_part3_eq_skeleton, k0_part3_skel, bind_assoc, pure_bind]
    iintro ⟨H1, H2, H3, H4, H5, H6, H7⟩
    sl_exec (disch := (first | exact hodd))
    sl_step
    have hacc : arg7.view.read (Elt F) fL0 = pairAcc (arg2.view.read (Elt F) f2) (arg3.view.read (Elt F) f3) (arg4.view.read (Elt F) f4)
        (arg5.view.read (Elt F) f5) k0_pay5 (ptrOf (arg1.view.read (Elt F) f1) k.val)
        ((ptrOf (arg1.view.read (Elt F) f1) (k.val + 1) - ptrOf (arg1.view.read (Elt F) f1) k.val) / 2) :=
      hL5.trans (pairAcc_congr (read_acc _ _ _ _ _) e1 (htr.trans (by rw [e1, e2])))
    clear hL5
    iframe H1 H2 H3 H4 H5
    isplitl [H6]
    · iexists _
      iframe H6
      ipureintro
      intro y
      refine (read_out arg6.view f6 k _ _ y).trans ?_
      split
      · unfold outBlk
        refine congrFun (congrArg k0_pay2 ?_) _
        unfold rowAcc
        rw [if_neg (fun h => hodd (hcond.mpr (by rw [e1, e2]; exact h)))]
        exact (View.readAt_full _ _ _).trans hacc
      · rfl
    · iexists _
      iframe H7

end Cert.Proof.KernelIdeal
-- ==== Proof.KernelIdeal.Body.lean ====
module

public import proofs.«01_k».proof.Proof.KernelIdeal.Row

/-! One grid point of the kernel: the loop over the 32 block rows fills the output window, row by row. -/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before row `k`: the inputs as they were, the first `k` column blocks of the output window at their final contents,
    the accumulator at anything. -/
def rowsInv (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (k : ℕ) : sProp 𝕄 :=
  iprop(tbl (F := F) c arg1 f1 ∗ tbl (F := F) c arg2 f2 ∗ held (F := F) c arg3 f3 ∗ held (F := F) c arg4 f4 ∗ held (F := F) c arg5 f5
    ∗ (∃ g, held (F := F) c arg6 g ∗ ⌜∀ y, (y 1).val / 128 < k → arg6.view.read (Elt F) g y = outWin (arg1.view.read (Elt F) f1) (arg2.view.read (Elt F) f2) (arg3.view.read (Elt F) f3) (arg4.view.read (Elt F) f4) (arg5.view.read (Elt F) f5) y⌝)
    ∗ ∃ f, held (F := F) c arg7 f)

/-- One row keeps the invariant. -/
theorem rows_step (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2)) (hrow : RowsOK (F := F) (arg1.view.read (Elt F) f1))
    (k : Fin k0_t1_loop.trips) (acc : Unit) :
    rowsInv (F := F) c i arg1 harg1 arg2 harg2 arg3 harg3 arg4 harg4 arg5 harg5 arg6 harg6 arg7 harg7 f1 f2 f3 f4 f5 f6 f7 k.val
    ⊢ wp Idealize.ShloMosaic.frame (wpE (defs₀ (F := F)) Variants.none (c : Thread nD τ) none) Set.univ
        (k0_t1_body (F := F) i arg1 harg1 arg2 harg2 arg3 harg3 arg4 harg4 arg5 harg5 arg6 harg6 arg7 harg7 k acc)
        (fun _ => rowsInv (F := F) c i arg1 harg1 arg2 harg2 arg3 harg3 arg4 harg4 arg5 harg5 arg6 harg6 arg7 harg7 f1 f2 f3 f4 f5 f6 f7 (k.val + 1)) := by
  unfold rowsInv
  iintro ⟨H1, H2, H3, H4, H5, ⟨%g, H6, %hg⟩, ⟨%f, H7⟩⟩
  have post : ∀ _a : Unit, iprop(tbl (F := F) c arg1 f1 ∗ tbl (F := F) c arg2 f2 ∗ held (F := F) c arg3 f3 ∗ held (F := F) c arg4 f4 ∗ held (F := F) c arg5 f5
      ∗ (∃ g', held (F := F) c arg6 g' ∗ ⌜∀ y, arg6.view.read (Elt F) g' y = if (y 1).val / 128 = k.val then
          outBlk (arg1.view.read (Elt F) f1) (arg2.view.read (Elt F) f2) (arg3.view.read (Elt F) f3) (arg4.view.read (Elt F) f4) (arg5.view.read (Elt F) f5) k.val (ix2 (y 0) ⟨(y 1).val % 128, Nat.mod_lt _ (by decide)⟩)
          else arg6.view.read (Elt F) g y⌝)
      ∗ ∃ f, held (F := F) c arg7 f)
      ⊢ iprop(tbl (F := F) c arg1 f1 ∗ tbl (F := F) c arg2 f2 ∗ held (F := F) c arg3 f3 ∗ held (F := F) c arg4 f4 ∗ held (F := F) c arg5 f5
    ∗ (∃ g, held (F := F) c arg6 g ∗ ⌜∀ y, (y 1).val / 128 < k.val + 1 → arg6.view.read (Elt F) g y = outWin (arg1.view.read (Elt F) f1) (arg2.view.read (Elt F) f2) (arg3.view.read (Elt F) f3) (arg4.view.read (Elt F) f4) (arg5.view.read (Elt F) f5) y⌝)
    ∗ ∃ f, held (F := F) c arg7 f) := fun _ => by
    iintro ⟨H1, H2, H3, H4, H5, ⟨%g', H6, %hg'⟩, H7⟩
    iframe H1 H2 H3 H4 H5 H7
    iexists g'
    iframe H6
    ipureintro
    intro y hy
    rw [hg' y]
    split
    · next h => unfold outWin; rw [h]
    · next h => exact hg y (by omega)
  iapply (row c i arg1 harg1 arg2 harg2 arg3 harg3 arg4 harg4 arg5 harg5 arg6 harg6 arg7 harg7 k f1 f2 f3 f4 f5 g f hcol hrow).trans ((wp _ _ _ _).mono post)
  iframe

/-- The kernel's function at one grid point: from the inputs' contents it leaves the output window at `outWin` of them. -/
theorem body (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2)) (hrow : RowsOK (F := F) (arg1.view.read (Elt F) f1)) :
    iprop(tbl (F := F) c arg1 f1 ∗ tbl (F := F) c arg2 f2 ∗ held (F := F) c arg3 f3 ∗ held (F := F) c arg4 f4 ∗ held (F := F) c arg5 f5 ∗ held (F := F) c arg6 f6 ∗ held (F := F) c arg7 f7)
    ⊢ wp Idealize.ShloMosaic.frame (wpE (defs₀ (F := F)) Variants.none (c : Thread nD τ) none) Set.univ
        (cc0_bsr_linear (F := F) i arg1 harg1 arg2 harg2 arg3 harg3 arg4 harg4 arg5 harg5 arg6 harg6 arg7 harg7)
        (fun _ => iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f)) := by
  rw [cc0_bsr_linear_eq_skeleton]; unfold cc0_bsr_linear_skel
  have start : iprop(tbl (F := F) c arg1 f1 ∗ tbl (F := F) c arg2 f2 ∗ held (F := F) c arg3 f3 ∗ held (F := F) c arg4 f4 ∗ held (F := F) c arg5 f5 ∗ held (F := F) c arg6 f6 ∗ held (F := F) c arg7 f7)
      ⊢ rowsInv (F := F) c i arg1 harg1 arg2 harg2 arg3 harg3 arg4 harg4 arg5 harg5 arg6 harg6 arg7 harg7 f1 f2 f3 f4 f5 f6 f7 0 := by
    unfold rowsInv
    iintro ⟨H1, H2, H3, H4, H5, H6, H7⟩
    iframe H1 H2 H3 H4 H5
    isplitl [H6]
    · iexists f6
      iframe H6
      ipureintro
      exact fun y h => absurd h (Nat.not_lt_zero _)
    · iexists f7
      iframe H7
  have fin : rowsInv (F := F) c i arg1 harg1 arg2 harg2 arg3 harg3 arg4 harg4 arg5 harg5 arg6 harg6 arg7 harg7 f1 f2 f3 f4 f5 f6 f7 k0_t1_loop.trips
      ⊢ iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f) := by
    unfold rowsInv
    iintro ⟨H1, H2, H3, H4, H5, ⟨%g, H6, %hg⟩, H7⟩
    iframe H1 H2 H3 H4 H5 H7
    iexists g
    iframe H6
    ipureintro
    funext y
    refine hg y ?_
    have hy : (y 1).val < 4096 := (y 1).isLt
    show (y 1).val / 128 < 32
    omega
  have h := Scf.wp_for_bind Idealize.ShloMosaic.frame (wpE (defs₀ (F := F)) Variants.none (c : Thread nD τ) none) Set.univ
    _ _ _ k0_t1_ok () (k0_t1_body (F := F) i arg1 harg1 arg2 harg2 arg3 harg3 arg4 harg4 arg5 harg5 arg6 harg6 arg7 harg7)
    (fun k _ => rowsInv (F := F) c i arg1 harg1 arg2 harg2 arg3 harg3 arg4 harg4 arg5 harg5 arg6 harg6 arg7 harg7 f1 f2 f3 f4 f5 f6 f7 k)
    (fun k acc => rows_step c i arg1 harg1 arg2 harg2 arg3 harg3 arg4 harg4 arg5 harg5 arg6 harg6 arg7 harg7 f1 f2 f3 f4 f5 f6 f7 hcol hrow k acc)
    (kk := fun _ => (pure ⟨⟩ : Prog _ PUnit))
    (Q := fun _ => iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f))
  refine start.trans ?_
  iintro HI
  iapply h $$ HI
  iintro %acc HI
  sl_step
  iapply fin $$ HI

end Cert.Proof.KernelIdeal
-- ==== Proof.KernelIdeal.Frame.lean ====
module

public import proofs.«01_k».proof.Proof.KernelIdeal.Body
public import proofs.«01_k».proof.Proof.Words
public import proofs.«01_k».proof.Proof.Gen.KernelIdeal.Launch
public import Idealize.ShloMosaic.Lib.Pipeline.Frame
public import Idealize.ShloMosaic.Lib.Pipeline.FrameBody
public import Idealize.ShloMosaic.Lib.Pipeline.FrameSuffix

/-! The run of the whole program: the host reshape before the kernel, the twelve grid points, the host reshape after. -/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- A core's buffers when the region is entered, as a valuation. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host reshapes allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first host line, the region, and its last host line. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The last host line touches no prefetched table, -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_bufs] at hb
  unfold Pipeline.tailRefs
  rw [Finset.mem_map]
  simp only [Finset.mem_insert, Finset.mem_singleton] at hb
  rcases hb with rfl | rfl
  · exact ⟨main_v1, by decide, rfl⟩
  · exact ⟨main_v2, by decide, rfl⟩
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.reshape_writes, Finset.mem_singleton]
    exact StableHlo.devRef_ne_of_ne (by decide)))

/-- No host line after the region writes `main_arg0`. -/
theorem W_main_arg0 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`. -/
theorem W_main_arg1 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region writes `main_arg2`. -/
theorem W_main_arg2 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The proof data -/

/-- The contents the prefetched tables are read at: what the buffers hold when the region is entered. -/
def adm (p : Fin 1) : (pcfgs (F := F) p).Adm := ⟨fun k => V m 0 (pre0.ref k), trivial⟩

/-- Window `w`'s block at point `t`, read off its array as the region finds it. -/
def iblk (c : Dev nD) (w : Fin (Pipeline.pin (pcfgs (F := F)) (adm m) 0).W) (t : Fin (Pipeline.pin (pcfgs (F := F)) (adm m) 0).N) :
    (((Pipeline.pin (pcfgs (F := F)) (adm m) 0).win w).xblock ((Pipeline.pin (pcfgs (F := F)) (adm m) 0).grid.coords t)).Idx → Elt F ((Pipeline.pin (pcfgs (F := F)) (adm m) 0).win w).elt :=
  (((Pipeline.pin (pcfgs (F := F)) (adm m) 0).win w).blk t).view.read (Elt F) (V m c (Pipeline.arrRef spec0 w))

/-- What the kernel's function leaves in its output window at point `t`. -/
def oblk (c : Dev nD) (t : Fin (Pipeline.pin (pcfgs (F := F)) (adm m) 0).N) : Vec F S512x4096 .bf16 :=
  outWin ((Memref.whole main_arg1).view.read (Elt F) ((adm (F := F) m 0).1 0)) ((Memref.whole main_arg2).view.read (Elt F) ((adm (F := F) m 0).1 1)) (iblk m c 0 t) (iblk m c 1 t) (iblk m c 2 t)

/-- The proof data: the arrays as the region finds them, every input's buffer left at its block, the output's at `oblk`. -/
def dats (_ : Fin 1) (c : Dev nD) : Dat τ (Elt F) Unit ℕ (UR sig nD τ) ℕ (Pipeline.pin (pcfgs (F := F)) (adm m) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := iprop(Pipeline.ΦA spec0 c ∗ Pipeline.ΦT pre0 (adm m 0).1 c)
  q _ := fullShare
  owed _ := 0

/-- Each array is the one the region finds. -/
theorem A_eq (c : Dev nD) (w : Fin (Pipeline.pin (pcfgs (F := F)) (adm m) 0).W) : (dats m 0 c).A w = V m c (Pipeline.arrRef spec0 w) := by
  dsimp only [dats]
/-- The buffers after a point: the three inputs at their blocks, the output at what the body computes. -/
theorem after0_0 (c : Dev nD) (t : Fin (Pipeline.pin (pcfgs (F := F)) (adm m) 0).N) : (dats m 0 c).after 0 t = iblk m c 0 t := by dsimp only [dats]; rfl
theorem after0_1 (c : Dev nD) (t : Fin (Pipeline.pin (pcfgs (F := F)) (adm m) 0).N) : (dats m 0 c).after 1 t = iblk m c 1 t := by dsimp only [dats]; rfl
theorem after0_2 (c : Dev nD) (t : Fin (Pipeline.pin (pcfgs (F := F)) (adm m) 0).N) : (dats m 0 c).after 2 t = iblk m c 2 t := by dsimp only [dats]; rfl
theorem after0_3 (c : Dev nD) (t : Fin (Pipeline.pin (pcfgs (F := F)) (adm m) 0).N) : (dats m 0 c).after 3 t = oblk m c t := by dsimp only [dats]; rfl

/-- The input buffers before a point hold the blocks of that point. -/
theorem before0_0 (c : Dev nD) (t : Fin (Pipeline.pin (pcfgs (F := F)) (adm m) 0).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (Pipeline.pin (pcfgs (F := F)) (adm m) 0).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (Pipeline.pin (pcfgs (F := F)) (adm m) 0).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The two tables, one by one. -/
theorem tables_eq (c : Dev nD) : (Pipeline.ΦT pre0 (adm (F := F) m 0).1 c : sProp 𝕄)
    = iprop((tbl (F := F) c (Memref.whole main_arg1) ((adm (F := F) m 0).1 0)) ∗ tbl (F := F) c (Memref.whole main_arg2) ((adm (F := F) m 0).1 1)) := by
  unfold Pipeline.ΦT Pipeline.prefHeld
  rw [bigSep_univ_eq_bigSepL [(0 : Fin 2), (1 : Fin 2)] (by decide) (by decide)]
  simp only [tbl, Memref.view_whole, View.set_whole]; rfl

/-- The accumulator at some contents, behind its memref. -/
theorem scratch_eq (c : Dev nD) : (iprop(∃ f : Buf (Elt F) ((c : Thread nD τ).loc cc0_scratch0), ((c : Thread nD τ).loc cc0_scratch0) ↦{fullShare} f) : sProp 𝕄)
    = iprop(∃ f, held (F := F) c (Memref.whole cc0_scratch0) f) := by
  simp only [held, Memref.view_whole, View.set_whole]

/-! ## The body obligation -/

/-- The staging buffers the function is called with at point `t`. -/
abbrev st0_0 (t : Fin (Pipeline.pin (pcfgs (F := F)) (adm m) 0).N) : Memref sig .tc .smem S717 .f32 := spec0_0.stage ((Pipeline.pin (pcfgs (F := F)) (adm m) 0).slots t 0)
abbrev st0_1 (t : Fin (Pipeline.pin (pcfgs (F := F)) (adm m) 0).N) : Memref sig .tc .vmem S512x14336 .bf16 := spec0_1.stage ((Pipeline.pin (pcfgs (F := F)) (adm m) 0).slots t 1)
abbrev st0_2 (t : Fin (Pipeline.pin (pcfgs (F := F)) (adm m) 0).N) : Memref sig .tc .vmem S717x128x128 .fp8e4m3 := spec0_2.stage ((Pipeline.pin (pcfgs (F := F)) (adm m) 0).slots t 2)
abbrev st0_3 (t : Fin (Pipeline.pin (pcfgs (F := F)) (adm m) 0).N) : Memref sig .tc .vmem S512x4096 .bf16 := spec0_3.stage ((Pipeline.pin (pcfgs (F := F)) (adm m) 0).slots t 3)

/-- The kernel's function at point `t`, on what the pipeline calls it with. -/
abbrev bodyAt0 (t : Fin (Pipeline.pin (pcfgs (F := F)) (adm m) 0).N) : Prog (TpuEff nD τ sig (Elt F) Λ₀ .tc) PUnit :=
  cc0_bsr_linear (grid0.coords t) (Memref.whole main_arg1) (Memref.isWhole_whole _) (Memref.whole main_arg2) (Memref.isWhole_whole _)
    (st0_0 m t) (hstage0_0 (((Pipeline.pin (pcfgs (F := F)) (adm m) 0).slots t 0).cast nbuf0_0))
    (st0_1 m t) (hstage0_1 (((Pipeline.pin (pcfgs (F := F)) (adm m) 0).slots t 1).cast nbuf0_1))
    (st0_2 m t) (hstage0_2 (((Pipeline.pin (pcfgs (F := F)) (adm m) 0).slots t 2).cast nbuf0_2))
    (st0_3 m t) (hstage0_3 (((Pipeline.pin (pcfgs (F := F)) (adm m) 0).slots t 3).cast nbuf0_3))
    (Memref.whole cc0_scratch0) (Memref.isWhole_whole _)

/-- The function's triple over the windows as the pipeline hands them over. -/
theorem sound_kernel (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty)
    (hcol : ColsOK (F := F) (arg2.view.read (Elt F) f2)) (hrow : RowsOK (F := F) (arg1.view.read (Elt F) f1))
    (x3 : Vec F S717 .f32) (x4 : Vec F S512x14336 .bf16) (x5 : Vec F S717x128x128 .fp8e4m3) :
    iprop(tbl (F := F) c arg1 f1 ∗ tbl (F := F) c arg2 f2 ∗ owns (c : Thread nD τ) arg3 fullShare x3 ∗ owns (c : Thread nD τ) arg4 fullShare x4
        ∗ owns (c : Thread nD τ) arg5 fullShare x5 ∗ (∃ d, owns (c : Thread nD τ) arg6 fullShare d) ∗ ∃ f7, held (F := F) c arg7 f7)
      ⊢ wp Idealize.ShloMosaic.frame (wpE (defs₀ (F := F)) Variants.none (c : Thread nD τ) none) Set.univ (cc0_bsr_linear (F := F) i arg1 harg1 arg2 harg2 arg3 harg3 arg4 harg4 arg5 harg5 arg6 harg6 arg7 harg7)
        (fun _ => iprop(tbl (F := F) c arg1 f1 ∗ tbl (F := F) c arg2 f2 ∗ owns (c : Thread nD τ) arg3 fullShare x3 ∗ owns (c : Thread nD τ) arg4 fullShare x4
          ∗ owns (c : Thread nD τ) arg5 fullShare x5
          ∗ owns (c : Thread nD τ) arg6 fullShare (outWin (arg1.view.read (Elt F) f1) (arg2.view.read (Elt F) f2) x3 x4 x5)
          ∗ ∃ f7, held (F := F) c arg7 f7)) := by
  unfold owns
  iintro ⟨H1, H2, ⟨%f3, %h3, H3⟩, ⟨%f4, %h4, H4⟩, ⟨%f5, %h5, H5⟩, ⟨%d6, %f6, -, H6⟩, ⟨%f7, H7⟩⟩
  subst h3 h4 h5
  have post : ∀ _a : PUnit, iprop(tbl (F := F) c arg1 f1 ∗ tbl (F := F) c arg2 f2 ∗ held (F := F) c arg3 f3 ∗ held (F := F) c arg4 f4 ∗ held (F := F) c arg5 f5
      ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
      ∗ ∃ f, held (F := F) c arg7 f)
      ⊢ iprop(tbl (F := F) c arg1 f1 ∗ tbl (F := F) c arg2 f2 ∗ (∃ f, ⌜arg3.view.read (Elt F) f = arg3.view.read (Elt F) f3⌝ ∗ held (F := F) c arg3 f)
        ∗ (∃ f, ⌜arg4.view.read (Elt F) f = arg4.view.read (Elt F) f4⌝ ∗ held (F := F) c arg4 f)
        ∗ (∃ f, ⌜arg5.view.read (Elt F) f = arg5.view.read (Elt F) f5⌝ ∗ held (F := F) c arg5 f)
        ∗ (∃ f, ⌜arg6.view.read (Elt F) f = outWin (arg1.view.read (Elt F) f1) (arg2.view.read (Elt F) f2) (arg3.view.read (Elt F) f3) (arg4.view.read (Elt F) f4) (arg5.view.read (Elt F) f5)⌝ ∗ held (F := F) c arg6 f)
        ∗ ∃ f7, held (F := F) c arg7 f7) := fun _ => by
    iintro ⟨H1, H2, H3, H4, H5, ⟨%g, H6, %hg⟩, H7⟩
    iframe H1 H2 H7
    isplitl [H3]
    · iexists f3; iframe H3; ipureintro; rfl
    isplitl [H4]
    · iexists f4; iframe H4; ipureintro; rfl
    isplitl [H5]
    · iexists f5; iframe H5; ipureintro; rfl
    iexists g; iframe H6; ipureintro; exact hg
  iapply (body (F := F) c i arg1 harg1 arg2 harg2 arg3 harg3 arg4 harg4 arg5 harg5 arg6 harg6 arg7 harg7 f1 f2 f3 f4 f5 f6 f7 hcol hrow).trans ((wp _ _ _ _).mono post)
  iframe

/-- What the function is called with at point `t`, -/
def bodyPre (c : Dev nD) (t : Fin (Pipeline.pin (pcfgs (F := F)) (adm m) 0).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d)))

/-- and what it returns. -/
def bodyPost (c : Dev nD) (t : Fin (Pipeline.pin (pcfgs (F := F)) (adm m) 0).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t))

/-- The two tables as the kernel's function needs them: offsets within the entries, columns within the input. -/
structure TablesOK : Prop where
  cols : ColsOK (F := F) ((Memref.whole main_arg2).view.read (Elt F) ((adm (F := F) m 0).1 1))
  rows : RowsOK (F := F) ((Memref.whole main_arg1).view.read (Elt F) ((adm (F := F) m 0).1 0))

/-- The tables are good when the arguments' words are in range. -/
theorem tablesOK (h : InRange (m (((0 : Dev nD) : Thread nD τ).loc main_arg1)) (m (((0 : Dev nD) : Thread nD τ).loc main_arg2))) : TablesOK m := by
  have e1 : (Memref.whole main_arg1).view.read (Elt F) ((adm (F := F) m 0).1 0) = m (((0 : Dev nD) : Thread nD τ).loc main_arg1) := V_main_arg1 m 0
  have e2 : (Memref.whole main_arg2).view.read (Elt F) ((adm (F := F) m 0).1 1) = m (((0 : Dev nD) : Thread nD τ).loc main_arg2) := V_main_arg2 m 0
  refine ⟨?_, ?_⟩
  · rw [e2]; exact h.col
  · rw [e1]; exact fun r hr => ⟨h.le r hr, h.top r hr⟩

variable (hok : TablesOK m)
include hok

/-- The function at any point. -/
theorem sound_body (c : Dev nD) (t : Fin (Pipeline.pin (pcfgs (F := F)) (adm m) 0).N) :
    bodyPre m c t ⊢ wp Idealize.ShloMosaic.frame (wpE (defs₀ (F := F)) Variants.none c none) Set.univ (bodyAt0 m t) (fun _ => bodyPost m c t) := by
  unfold bodyPre bodyPost bodyAt0
  simp only [before0_0, before0_1, before0_2]
  rw [show (dats m 0 c).Φ t.castSucc = iprop(Pipeline.ΦA spec0 c ∗ Pipeline.ΦT pre0 (adm m 0).1 c) from rfl,
    show (dats m 0 c).Φ t.succ = iprop(Pipeline.ΦA spec0 c ∗ Pipeline.ΦT pre0 (adm m 0).1 c) from rfl,
    show (dats m 0 c).owesAt () t.succ = (dats m 0 c).owesAt () t.castSucc from rfl,
    after0_0, after0_1, after0_2, after0_3, tables_eq]
  unfold Pipeline.ΦA
  rw [scopedRest0_eq, scratch_eq]
  have h := sound_kernel (F := F) c (grid0.coords t) (Memref.whole main_arg1) (Memref.isWhole_whole _) (Memref.whole main_arg2) (Memref.isWhole_whole _)
    (st0_0 m t) (hstage0_0 (((Pipeline.pin (pcfgs (F := F)) (adm m) 0).slots t 0).cast nbuf0_0))
    (st0_1 m t) (hstage0_1 (((Pipeline.pin (pcfgs (F := F)) (adm m) 0).slots t 1).cast nbuf0_1))
    (st0_2 m t) (hstage0_2 (((Pipeline.pin (pcfgs (F := F)) (adm m) 0).slots t 2).cast nbuf0_2))
    (st0_3 m t) (hstage0_3 (((Pipeline.pin (pcfgs (F := F)) (adm m) 0).slots t 3).cast nbuf0_3))
    (Memref.whole cc0_scratch0) (Memref.isWhole_whole _) ((adm (F := F) m 0).1 0) ((adm (F := F) m 0).1 1) hok.cols hok.rows
    (iblk m c 0 t) (iblk m c 1 t) (iblk m c 2 t)
  iintro ⟨⟨⟨HS, HP⟩, HT1, HT2⟩, Ho, ⟨%d0, H0⟩, ⟨%d1, H1⟩, ⟨%d2, H2⟩, ⟨%d3, H3⟩⟩
  iapply (wp_wand_r (Fr := Idealize.ShloMosaic.frame))
  isplitl [HS HT1 HT2 H0 H1 H2 H3]
  · iapply h
    isplitl [HT1]; · iexact HT1
    isplitl [HT2]; · iexact HT2
    isplitl [H0]; · iexact H0
    isplitl [H1]; · iexact H1
    isplitl [H2]; · iexact H2
    isplitl [H3]; · iexists _; iexact H3
    iexact HS
  iintro %_ ⟨HT1, HT2, H0, H1, H2, H3, HS⟩
  isplitl [HS HP HT1 HT2]
  · isplitl [HS HP]
    · isplitl [HS]
      · iexact HS
      · iexact HP
    · isplitl [HT1]; · iexact HT1
      iexact HT2
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  have hrow : defs₀ (F := F) .tc (Pipeline.pin (pcfgs (F := F)) (adm m) 0).body ((Pipeline.pin (pcfgs (F := F)) (adm m) 0).bodyArgs t ((Pipeline.pin (pcfgs (F := F)) (adm m) 0).slots t)) = bodyAt0 m t := by
    unfold defs₀; rw [Defs.onTc_tc]
  rw [hrow]
  exact triple_restated (sound_body m hok c t) rfl .rfl fun _ => .rfl

/-! ## The run and the frame -/

set_option backward.isDefEq.respectTransparency.types false in
set_option maxHeartbeats 800000 in
/-- The launch: every array of the region ends at what the proof data say, every other buffer as the host lines leave it, and
    every semaphore counter at zero. -/
theorem run_main : θ_run defs (onTc (τ := τ) (main (F := F))) (s₀ m ρ) (fun r => (Pipeline.FramePost (Pipeline.pin (pcfgs (F := F)) (adm m)) (dats m) 0 (Pipeline.afterTail (pcfgs (F := F)) (adm m) (dats m) 0 (V0 m) [hostOps1])) r ∧ r.2.sem = fun _ => 0) :=
  Pipeline.θ_run_frameP_around (Q' := _) (pcfgs (F := F)) (adm m) (dats m) (0 : Fin 1) launch0 defs₀ Variants.none m ρ main
    (hbody := fun c => (body_obligation m hok c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => by rw [Subsingleton.elim c 0]; rfl) (hΦ := fun _ _ => rfl)

/-- The arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨(((hh.1 c).2 main_arg0 (Pipeline.mem_restRefs_of main_arg0 (by decide) (by exact (by decide : ∀ w, Pipeline.arrRef spec0 w ≠ main_arg0)))).trans (W_main_arg0 m (adm m) (dats m) c)),
      (((hh.1 c).2 main_arg1 (Pipeline.mem_restRefs_of main_arg1 (by decide) (by exact (by decide : ∀ w, Pipeline.arrRef spec0 w ≠ main_arg1)))).trans (W_main_arg1 m (adm m) (dats m) c)),
      (((hh.1 c).2 main_arg2 (Pipeline.mem_restRefs_of main_arg2 (by decide) (by exact (by decide : ∀ w, Pipeline.arrRef spec0 w ≠ main_arg2)))).trans (W_main_arg2 m (adm m) (dats m) c)),
      ((hh.1 c).1 2).trans (((dats m 0 c).arrAt_in 2 rfl _).trans ((A_eq m c 2).trans (V_main_arg3 m c))),
      ((hh.1 c).1 0).trans (((dats m 0 c).arrAt_in 0 rfl _).trans ((A_eq m c 0).trans (V_main_arg4 m c)))⟩, hh.2⟩) (run_main m ρ hok)

end Cert.Proof.KernelIdeal
-- ==== Proof.KernelIdeal.Array.lean ====
/- What the kernel's output array holds after the run, as one function of the arguments.
   The twelve grid points' blocks tile the output, 512 rows each; a point reads the same 512 rows of x, and all of the
   entries' blocks and scales. -/
module

public import proofs.«01_k».proof.Proof.KernelIdeal.Frame
public import Idealize.ShloMosaic.Lib.Pipeline.ValueKit
public import Idealize.ShloMosaic.Lib.Pipeline.Covers

@[expose] public section

set_option maxRecDepth 16384

noncomputable section

namespace Cert.Proof.KernelIdeal

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

/-- Rows `512 t` to `512 t + 511` of x. -/
def rowsOf (x : Vec F S6144x14336 .bf16) (t : ℕ) : Vec F S512x14336 .bf16 :=
  fun i => x (ix2 ⟨(512 * t + (i 0).val) % 6144, Nat.mod_lt _ (by decide)⟩ (i 1))

/-- The output array: row `512 t + a` is row `a` of point `t`'s block. -/
def outArr (x1 : Vec F S33 .i32) (x2 : Vec F S717 .i32) (s : Vec F S717 .f32) (x : Vec F S6144x14336 .bf16)
    (b : Vec F S717x128x128 .fp8e4m3) : Vec F S6144x4096 .bf16 :=
  fun i => outWin x1 x2 s (rowsOf x ((i 0).val / 512)) b (ix2 ⟨(i 0).val % 512, Nat.mod_lt _ (by decide)⟩ (i 1))

/-- The rows of the output array that point `t` writes are point `t`'s block. -/
theorem outArr_at (x1 : Vec F S33 .i32) (x2 : Vec F S717 .i32) (s : Vec F S717 .f32) (x : Vec F S6144x14336 .bf16)
    (b : Vec F S717x128x128 .fp8e4m3) (i : S6144x4096.Idx) (t : ℕ) (y : S512x4096.Idx)
    (h0 : (i 0).val = 512 * t + (y 0).val) (h1 : (i 1).val = (y 1).val) :
    outArr x1 x2 s x b i = outWin x1 x2 s (rowsOf x t) b y := by
  have hy : (y 0).val < 512 := (y 0).isLt
  unfold outArr
  rw [show (i 0).val / 512 = t by omega]
  refine congrArg (outWin x1 x2 s (rowsOf x t) b) (funext fun a => Fin.ext ?_)
  fin_cases a
  · show (i 0).val % 512 = (y 0).val
    omega
  · exact h1

variable (m : (ℓ : Loc nD τ sig) → Buf (Elt F) ℓ)

/-- Point `t` writes the output's block `t`. -/
theorem idx3 : ∀ t : Fin grid0.N, cc0_transform_3 (grid0.coords t) 0 = t.val ∧ cc0_transform_3 (grid0.coords t) 1 = 0 := by decide
/-- Point `t` reads x's block `t`. -/
theorem idx1 : ∀ t : Fin grid0.N, cc0_transform_1 (grid0.coords t) 0 = t.val ∧ cc0_transform_1 (grid0.coords t) 1 = 0 := by decide

/-- Every point reads all of the scales, -/
theorem iblk_scale (c : Dev nD) (t) : iblk m c 0 t = V m c main_arg4 := by
  refine funext fun j : S717.Idx => ?_
  refine congrArg (V m c main_arg4) (funext fun a => Fin.ext ?_)
  fin_cases a
  show 0 * 717 + 1 * (j 0).val = (j 0).val
  omega
/-- rows `512 t` to `512 t + 511` of x, -/
theorem iblk_x (c : Dev nD) (t) : iblk m c 1 t = rowsOf (V m c main_v0) t.val := by
  refine funext fun j : S512x14336.Idx => ?_
  have h0 : (j 0).val < 512 := (j 0).isLt
  have ht : t.val < 12 := t.isLt
  obtain ⟨e0, e1⟩ := idx1 t
  refine congrArg (V m c main_v0) (funext fun a => Fin.ext ?_)
  fin_cases a
  · show cc0_transform_1 (grid0.coords t) 0 * 512 + 1 * (j 0).val = (512 * t.val + (j 0).val) % 6144
    rw [e0]; omega
  · show cc0_transform_1 (grid0.coords t) 1 * 14336 + 1 * (j 1).val = (j 1).val
    rw [e1]; omega
/-- and all of the blocks. -/
theorem iblk_blocks (c : Dev nD) (t) : iblk m c 2 t = V m c main_arg3 := by
  refine funext fun j : S717x128x128.Idx => ?_
  refine congrArg (V m c main_arg3) (funext fun a => Fin.ext ?_)
  fin_cases a
  · show 0 * 717 + 1 * (j 0).val = (j 0).val; omega
  · show 0 * 128 + 1 * (j 1).val = (j 1).val; omega
  · show 0 * 128 + 1 * (j 2).val = (j 2).val; omega

/-- The two tables, the scales, x as rows and the blocks, as the region finds them: the output array they give. -/
def outOf (c : Dev nD) : Vec F S6144x4096 .bf16 :=
  outArr ((Memref.whole main_arg1).view.read (Elt F) ((adm (F := F) m 0).1 0)) ((Memref.whole main_arg2).view.read (Elt F) ((adm (F := F) m 0).1 1))
    (V m c main_arg4) (V m c main_v0) (V m c main_arg3)

/-- The output's blocks tile its array. -/
theorem covers3 : ((Pipeline.pin (pcfgs (F := F)) (adm m) 0).win 3).Covers := by
  refine ((Pipeline.pin (pcfgs (F := F)) (adm m) 0).win 3).covers_of_indexMap_surj rfl (by exact (by decide : ∀ a : Fin 2, 0 < S512x4096.size a)) fun β => ?_
  have h0 : (β (0 : Fin 2)).val < 12 := lt_of_lt_of_eq (β (0 : Fin 2)).isLt (by show (6144 + 512 - 1) / 512 = 12; rfl)
  have h1 : (β (1 : Fin 2)).val < 1 := lt_of_lt_of_eq (β (1 : Fin 2)).isLt (by show (4096 + 4096 - 1) / 4096 = 1; rfl)
  obtain ⟨e0, e1⟩ := idx3 ⟨(β (0 : Fin 2)).val, h0⟩
  refine ⟨grid0.coords ⟨(β (0 : Fin 2)).val, h0⟩, fun (a : Fin 2) => ?_⟩
  fin_cases a
  · exact e0
  · exact e1.trans (by show 0 = (β (1 : Fin 2)).val; omega)

/-- The output array after the run. -/
theorem arr3 (c : Dev nD) : (dats m 0 c).arrAt 3 (Pipeline.pin (pcfgs (F := F)) (adm m) 0).N = outOf m c := by
  refine (dats m 0 c).arrAt_eq_of_covers 3 (outOf m c) (covers3 m) fun t hf y => ?_
  rw [after0_3]
  unfold oblk outOf
  rw [iblk_scale, iblk_x, iblk_blocks]
  obtain ⟨e0, e1⟩ := idx3 t
  have y0 : (y (0 : Fin 2)).val < 512 := (y (0 : Fin 2)).isLt
  have a0 : ((((Pipeline.pin (pcfgs (F := F)) (adm m) 0).win 3).blk t).view.emb y (0 : Fin 2)).val = 512 * t.val + (y (0 : Fin 2)).val := by
    show cc0_transform_3 (grid0.coords t) 0 * 512 + 1 * (y (0 : Fin 2)).val = _
    rw [e0]; omega
  have a1 : ((((Pipeline.pin (pcfgs (F := F)) (adm m) 0).win 3).blk t).view.emb y (1 : Fin 2)).val = (y (1 : Fin 2)).val := by
    show cc0_transform_3 (grid0.coords t) 1 * 4096 + 1 * (y (1 : Fin 2)).val = _
    rw [e1]; omega
  exact (outArr_at _ _ _ _ _ _ t.val y a0 a1).symm

end Cert.Proof.KernelIdeal
-- ==== Proof.KernelIdeal.Value.lean ====
/- A row's accumulator over the real numbers.
   One entry adds `entrySum`: the product of the entry's column block of x with its scaled weight block. A pair of entries
   is one product over the two blocks side by side, which is the sum of the two. So a row's accumulator is the sum of
   `entrySum` over the row's entries (`rowAcc_apply`), however the kernel pairs them. -/
module

public import proofs.«01_k».proof.Proof.KernelIdeal.Readers
public import Idealize.ShloMosaic.Lib.Pointwise

@[expose] public section

noncomputable section

namespace Cert.Proof.KernelIdeal

open Cert.KernelIdeal Cert.KernelIdeal.Gen
open Idealize.ShloMosaic
open scoped BigOperators

/-- What entry `n` adds to the accumulator at row `a` of the block of x and column `j` of the entry's block row. -/
def entrySum (x2 : Vec Ideal S717 .i32) (x3 : Vec Ideal S717 .f32) (x4 : Vec Ideal S512x14336 .bf16)
    (x5 : Vec Ideal S717x128x128 .fp8e4m3) (a : Fin 512) (j : Fin 128) (n : ℕ) : EReal :=
  ∑ k : Fin 128, x4 (ix2 a ⟨(128 * colOf x2 n + k.val) % 14336, Nat.mod_lt _ (by decide)⟩)
    * (x5 (ix3 ⟨n % 717, Nat.mod_lt _ (by decide)⟩ j k) * x3 (ent n))

variable (x2 : Vec Ideal S717 .i32) (x3 : Vec Ideal S717 .f32) (x4 : Vec Ideal S512x14336 .bf16)
  (x5 : Vec Ideal S717x128x128 .fp8e4m3)

/-- The odd entry adds its `entrySum`. -/
theorem oddStep_apply (n : ℕ) (acc : Vec Ideal S512x128 .f32) (a : Fin 512) (j : Fin 128) :
    oddStep x2 x3 x4 x5 n acc (ix2 a j) = (acc (ix2 a j) : EReal) + entrySum x2 x3 x4 x5 a j n := by
  simp only [oddStep, k0_pay1]
  pointwise
  rfl

/-- A pair of entries adds the two `entrySum`s. -/
theorem pairStep_apply (n : ℕ) (acc : Vec Ideal S512x128 .f32) (a : Fin 512) (j : Fin 128) :
    pairStep x2 x3 x4 x5 n acc (ix2 a j)
      = (acc (ix2 a j) : EReal) + (entrySum x2 x3 x4 x5 a j n + entrySum x2 x3 x4 x5 a j (n + 1)) := by
  simp only [pairStep, k0_pay6, k0_pay3]
  pointwise
  rfl

/-- Some pairs of entries add the `entrySum`s of their entries. -/
theorem pairAcc_apply (acc : Vec Ideal S512x128 .f32) (b p : ℕ) (a : Fin 512) (j : Fin 128) :
    pairAcc x2 x3 x4 x5 acc b p (ix2 a j)
      = (acc (ix2 a j) : EReal) + ∑ n ∈ Finset.Ico b (b + 2 * p), entrySum x2 x3 x4 x5 a j n := by
  induction p with
  | zero => simp [pairAcc]
  | succ p ih =>
    rw [pairAcc, pairStep_apply, ih, show b + 2 * (p + 1) = b + 2 * p + 1 + 1 by omega,
      Finset.sum_Ico_succ_top (by omega), Finset.sum_Ico_succ_top (by omega)]
    ac_rfl

/-- The zeros an accumulator starts from. -/
theorem zeros_apply (a : Fin 512) (j : Fin 128) : (k0_pay5 (F := Ideal) (ix2 a j) : EReal) = 0 := by
  simp only [k0_pay5]
  pointwise

/-- A row's accumulator is the sum over the row's entries. -/
theorem rowAcc_apply (b e : ℕ) (h : b ≤ e) (a : Fin 512) (j : Fin 128) :
    (rowAcc x2 x3 x4 x5 b e (ix2 a j) : EReal) = ∑ n ∈ Finset.Ico b e, entrySum x2 x3 x4 x5 a j n := by
  rw [rowAcc]
  split
  · next hp =>
    rw [oddStep_apply, pairAcc_apply, zeros_apply, zero_add]
    obtain ⟨q, rfl⟩ : ∃ q, e = b + 2 * q + 1 := ⟨(e - b) / 2, by omega⟩
    rw [show (b + 2 * q + 1 - b) / 2 = q by omega, Nat.add_sub_cancel, Finset.sum_Ico_succ_top (by omega)]
  · next hp =>
    rw [pairAcc_apply, zeros_apply, zero_add, show b + 2 * ((e - b) / 2) = e by omega]

/-- Row `r`'s block of the output. -/
theorem outBlk_apply (x1 : Vec Ideal S33 .i32) (r : ℕ) (h : ptrOf x1 r ≤ ptrOf x1 (r + 1)) (a : Fin 512) (j : Fin 128) :
    (outBlk x1 x2 x3 x4 x5 r (ix2 a j) : EReal)
      = ∑ n ∈ Finset.Ico (ptrOf x1 r) (ptrOf x1 (r + 1)), entrySum x2 x3 x4 x5 a j n :=
  rowAcc_apply x2 x3 x4 x5 _ _ h a j

end Cert.Proof.KernelIdeal
-- ==== Proof.KernelIdeal.Result.lean ====
/- The kernel's result over the real numbers: element (b, s, o) is the sum, over the entries of block row o / 128, of the
   product of the entry's column block of x's row (b, s) with row o % 128 of its scaled weight block. -/
module

public import proofs.«01_k».proof.Proof.KernelIdeal.Array
public import proofs.«01_k».proof.Proof.KernelIdeal.Value

@[expose] public section

set_option maxRecDepth 16384

noncomputable section

namespace Cert.Proof.KernelIdeal

open Cert.KernelIdeal Cert.KernelIdeal.Gen
open Idealize.ShloMosaic Idealize.ShloMosaic.TcCoe
open Idealize.SL.Sem Idealize.ShloMosaic.StableHlo
open Idealize.ShloMosaic.Pipeline (Dat Cfg Window)
open scoped BigOperators

section
variable {F : FTy → Type} [FloatOps F]

/-- The kernel's result as a function of its arguments. -/
def result (x : Vec F S2x3072x14336 .bf16) (x1 : Vec F S33 .i32) (x2 : Vec F S717 .i32) (b : Vec F S717x128x128 .fp8e4m3)
    (s : Vec F S717 .f32) : Vec F S2x3072x4096 .bf16 :=
  shapeCast S2x3072x4096 (outArr x1 x2 s (shapeCast S6144x14336 x shapeCasts_S2x3072x14336_S6144x14336) b) shapeCasts_S6144x4096_S2x3072x4096

variable (m : (ℓ : Loc nD τ sig) → Buf (Elt F) ℓ) (ρ : Dev nD → PrngReg)

/-- The host line before the region leaves x as rows. -/
theorem V_main_v0 (c : Dev nD) : V m c main_v0
    = shapeCast S6144x14336 (m ((c : Thread nD τ).loc main_arg0) : Vec F S2x3072x14336 .bf16) shapeCasts_S2x3072x14336_S6144x14336 := by
  show StableHlo.after (List.flatten [hostOps0]) (fun b => m (c, b)) (Proc.devRef .tc main_v0) = _
  simp only [hostOps0, List.flatten_cons, List.flatten_nil, List.append_nil]
  after_results
  rfl

/-- The output array as a function of the arguments. -/
theorem outOf_eq (c : Dev nD) : outOf m c = outArr (m ((c : Thread nD τ).loc main_arg1)) (m ((c : Thread nD τ).loc main_arg2))
    (m ((c : Thread nD τ).loc main_arg4))
    (shapeCast S6144x14336 (m ((c : Thread nD τ).loc main_arg0) : Vec F S2x3072x14336 .bf16) shapeCasts_S2x3072x14336_S6144x14336)
    (m ((c : Thread nD τ).loc main_arg3)) := by
  obtain rfl : c = 0 := Subsingleton.elim _ _
  have e1 : (Memref.whole main_arg1).view.read (Elt F) ((adm (F := F) m 0).1 0) = m (((0 : Dev nD) : Thread nD τ).loc main_arg1) := V_main_arg1 m 0
  have e2 : (Memref.whole main_arg2).view.read (Elt F) ((adm (F := F) m 0).1 1) = m (((0 : Dev nD) : Thread nD τ).loc main_arg2) := V_main_arg2 m 0
  unfold outOf
  rw [e1, e2, V_main_v0, V_main_arg3, V_main_arg4]

/-- The host line after the region leaves the result. -/
theorem W_main_v2 (c : Dev nD) :
    Pipeline.afterTail (pcfgs (F := F)) (adm m) (dats m) 0 (V0 m) [hostOps1] c main_v2
      = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail result
  simp only [hostOps1, List.flatten_cons, List.flatten_nil, List.append_nil]
  after_results
  have hv : Pipeline.withArrays (Pipeline.pin (pcfgs (F := F)) (adm m) 0).spec c (V0 m c)
      (fun w => (dats m 0 c).arrAt w (Pipeline.pin (pcfgs (F := F)) (adm m) 0).N) (Proc.tc.devRef main_v1) = outOf m c :=
    (Pipeline.withArrays_arr spec0 (by exact (by decide : Function.Injective (Pipeline.arrRef spec0))) c (V0 m c) _ 3).trans (arr3 m c)
  rw [hv, outOf_eq]
  rfl

/-- The run, with the result named. -/
theorem run (hok : TablesOK m) : θ_run defs (onTc (τ := τ) (main (F := F))) ⟨m, fun _ => 0, ρ⟩ (fun r => ∀ c : Dev nD,
      r.2.mem ((c.tc : Thread nD τ).loc main_v2) = result (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ hh c => ⟨((hh.1 c).2 main_v2 (Pipeline.mem_restRefs_of main_v2 (by decide) (by exact (by decide : ∀ w, Pipeline.arrRef spec0 w ≠ main_v2)))).trans (W_main_v2 m c),
      (((hh.1 c).2 main_arg0 (Pipeline.mem_restRefs_of main_arg0 (by decide) (by exact (by decide : ∀ w, Pipeline.arrRef spec0 w ≠ main_arg0)))).trans (W_main_arg0 m (adm m) (dats m) c)),
      (((hh.1 c).2 main_arg1 (Pipeline.mem_restRefs_of main_arg1 (by decide) (by exact (by decide : ∀ w, Pipeline.arrRef spec0 w ≠ main_arg1)))).trans (W_main_arg1 m (adm m) (dats m) c)),
      (((hh.1 c).2 main_arg2 (Pipeline.mem_restRefs_of main_arg2 (by decide) (by exact (by decide : ∀ w, Pipeline.arrRef spec0 w ≠ main_arg2)))).trans (W_main_arg2 m (adm m) (dats m) c)),
      ((hh.1 c).1 2).trans (((dats m 0 c).arrAt_in 2 rfl _).trans ((A_eq m c 2).trans (V_main_arg3 m c))),
      ((hh.1 c).1 0).trans (((dats m 0 c).arrAt_in 0 rfl _).trans ((A_eq m c 0).trans (V_main_arg4 m c)))⟩) (run_main m ρ hok)

end

/-- The result at an element. -/
theorem result_apply (x : Vec Ideal S2x3072x14336 .bf16) (x1 : Vec Ideal S33 .i32) (x2 : Vec Ideal S717 .i32) (b : Vec Ideal S717x128x128 .fp8e4m3)
    (s : Vec Ideal S717 .f32) (hle : ∀ r < 32, ptrOf x1 r ≤ ptrOf x1 (r + 1)) (p : Fin 2) (q : Fin 3072) (o : Fin 4096) :
    (result x x1 x2 b s (ix3 p q o) : EReal)
      = ∑ n ∈ Finset.Ico (ptrOf x1 (o.val / 128)) (ptrOf x1 (o.val / 128 + 1)),
          ∑ k : Fin 128, x (ix3 p q ⟨(128 * colOf x2 n + k.val) % 14336, Nat.mod_lt _ (by decide)⟩)
            * (b (ix3 ⟨n % 717, Nat.mod_lt _ (by decide)⟩ ⟨o.val % 128, Nat.mod_lt _ (by decide)⟩ k) * s (ent n)) := by
  unfold result
  pointwise
  have ho : o.val < 4096 := o.isLt
  refine (outBlk_apply x2 s _ b x1 (o.val / 128) (hle _ (by omega)) ⟨(p.val * 3072 + q.val) % 512, Nat.mod_lt _ (by decide)⟩
    ⟨o.val % 128, Nat.mod_lt _ (by decide)⟩).trans ?_
  refine Finset.sum_congr rfl fun n _ => ?_
  unfold entrySum
  refine Finset.sum_congr rfl fun k _ => ?_
  refine congrArg (· * (b (ix3 ⟨n % 717, Nat.mod_lt _ (by decide)⟩ ⟨o.val % 128, Nat.mod_lt _ (by decide)⟩ k) * s (ent n))) ?_
  unfold rowsOf
  pointwise
  done

end Cert.Proof.KernelIdeal
-- ==== Proof.Reference.Run.lean ====
/- What the reference program leaves in its result, as a chain of its own operations on its arguments: the entries' block
   rows (`entryRow`), the places they are put at (`places`), the scaled blocks, the dense weights (`dense`), and the product
   of x with them. -/
module

public import proofs.«01_k».proof.Proof.Gen.ReferenceIdeal
public import proofs.«01_k».proof.Proof.Gen.ReferenceIdeal.Frame
public import Idealize.ShloMosaic.Lib.Pipeline.ValueKit
public import Idealize.ShloMosaic.Lib.StableHlo.Run

@[expose] public section

set_option maxRecDepth 16384

noncomputable section

namespace Cert.Proof.Reference

open Cert.ReferenceIdeal Cert.ReferenceIdeal.Gen
open Idealize.ShloMosaic Idealize.ShloMosaic.TcCoe Idealize.ShloMosaic.StableHlo
open Idealize.SL.Sem
open Idealize.ShloMosaic.Pipeline (Dat Cfg Window)

variable {F : FTy → Type} [FloatOps F]

/-- For every entry, how many row pointers are at most the entry's number. -/
def rowCount (x1 : Vec F S33 .i32) : Vec F S717 .i32 :=
  Host.reduce IntOp.addi
    (extui 32 (cmpi .sle (broadcastInDim S33x717 ![0, 1] bcast_S33x1_S33x717_0_1 (broadcastInDim S33x1 ![0] bcast_S33_S33x1_0 x1))
      (broadcastInDim S33x717 ![0, 1] bcast_S1x717_S33x717_0_1 (broadcastInDim S1x717 ![1] bcast_S717_S1x717_1 (iotaInDim S717 32 0)))) natLt_1_32)
    (constantI S_ 32 0#32) reducesTo_S33x717_S717_d0 h_S_

/-- The block row of every entry: one less than that. -/
def entryRow (x1 : Vec F S33 .i32) : Vec F S717 .i32 :=
  subi (rowCount (F := F) x1) (broadcastInDim S717 ![] bcast_S_S717 (constantI S_ 32 1#32))

/-- A word, or the word plus `n` where it is negative. -/
def wrap (n : BitVec 32) (v : Vec F S717 .i32) : Vec F S717 .i32 :=
  select (cmpi .slt v (broadcastInDim S717 ![] bcast_S_S717 (constantI S_ 32 0#32)))
    (addi v (broadcastInDim S717 ![] bcast_S_S717 (constantI S_ 32 n))) v

/-- Where each entry's block goes: its block row and its block column. -/
def places (row col : Vec F S717 .i32) : Vec F S717x2 .i32 :=
  concatenate S717x2 1 [⟨S717x1, broadcastInDim S717x1 ![0] bcast_S717_S717x1_0 (wrap (F := F) 32#32 row)⟩,
    ⟨S717x1, broadcastInDim S717x1 ![0] bcast_S717_S717x1_0 (wrap (F := F) 112#32 col)⟩] concatenates_S717x1_S717x1_S717x2_d1

/-- The dense weights: zeros, with each entry's block put at its place. -/
def dense (p : Vec F S717x2 .i32) (u : Vec F S717x128x128 .bf16) : Vec F S32x128x112x128 .bf16 :=
  Host.scatter scatter_S32x128x112x128_S717x2_S717x128x128_12_02_02_1 (fun _ b => b)
    (broadcastInDim S32x128x112x128 ![] bcast_S_S32x128x112x128 (constant S_ .bf16 0x0000#16 : Vec F S_ .bf16)) p u

/-- The product of x with the dense weights, from the block rows, the block columns and the scaled blocks. -/
def product (x : Vec F S2x3072x14336 .bf16) (row col : Vec F S717 .i32) (u : Vec F S717x128x128 .bf16) : Vec F S2x3072x4096 .bf16 :=
  truncf .bf16 (Host.dotGeneral dot_S2x3072x14336_S4096x14336_S2x3072x4096_2_1_01_0_n_n none x
    (shapeCast S4096x14336 (dense (places row col) u) shapeCasts_S32x128x112x128_S4096x14336) : FVec F S2x3072x4096 .f32) bitsLt_bf16_f32

/-- The reference's result. -/
def result (x : Vec F S2x3072x14336 .bf16) (x1 : Vec F S33 .i32) (x2 : Vec F S717 .i32) (b : Vec F S717x128x128 .fp8e4m3)
    (s : Vec F S717 .f32) : Vec F S2x3072x4096 .bf16 :=
  product x (entryRow x1) x2 (k0_pay1 b s)

variable (m : (ℓ : Loc nD τ sig) → Buf (Elt F) ℓ) (ρ : Dev nD → PrngReg)

/-- What the counting lines hand back is the count itself. -/
theorem v1_toBuf (v : Vec F S717 .i32) : (TRef.of main_v1 : TRef sig ⟨S717, .i32⟩).toBuf v = v := rfl

/-- The host lines before the region leave the entries' block rows. -/
theorem V_main_v3 (c : Dev nD) : V m c main_v3 = entryRow (m ((c : Thread nD τ).loc main_arg1)) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append]
  after_results
  simp only [TRef.ofBuf_toBuf]
  exact congrArg (fun v => subi v (broadcastInDim S717 ![] bcast_S_S717 (constantI S_ 32 1#32))) (v1_toBuf _)

/-- The region reads all of the blocks -/
theorem iblk_blocks (c : Dev nD) (t) : iblk m c 0 t = (m ((c : Thread nD τ).loc main_arg3) : Vec F S717x128x128 .fp8e4m3) := by
  refine Eq.trans (funext fun j : S717x128x128.Idx => congrArg (V m c main_arg3) (funext fun a => Fin.ext ?_)) (V_main_arg3 m c)
  fin_cases a
  · show 0 * 717 + 1 * (j 0).val = (j 0).val; omega
  · show 0 * 128 + 1 * (j 1).val = (j 1).val; omega
  · show 0 * 128 + 1 * (j 2).val = (j 2).val; omega
/-- and all of the scales. -/
theorem iblk_scale (c : Dev nD) (t) : iblk m c 1 t = (m ((c : Thread nD τ).loc main_arg4) : Vec F S717 .f32) := by
  refine Eq.trans (funext fun j : S717.Idx => congrArg (V m c main_arg4) (funext fun a => Fin.ext ?_)) (V_main_arg4 m c)
  fin_cases a
  show 0 * 717 + 1 * (j 0).val = (j 0).val
  omega

/-- The region leaves the scaled blocks. -/
theorem arr2 (c : Dev nD) : (dats m 0 c).arrAt 2 cfg0.N
    = k0_pay1 (m ((c : Thread nD τ).loc main_arg3)) (m ((c : Thread nD τ).loc main_arg4)) := by
  refine (dats m 0 c).arrAt_eq_of_covers 2 _ (by decide +kernel) fun t hf y => ?_
  blk_simp
  rw [after0_2]
  unfold out0_2
  rw [View.canon_unit_zero (S := S717x128x128) (by funext a; fin_cases a <;> rfl), View.ld_unit_zero (S := S717x128x128) (by funext a; fin_cases a <;> rfl),
    View.ld_unit_zero (S := S717) (by funext a; fin_cases a; rfl), iblk_blocks, iblk_scale]
  refine congrArg (k0_pay1 (m ((c : Thread nD τ).loc main_arg3)) (m ((c : Thread nD τ).loc main_arg4))) (funext fun (a : Fin 3) => Fin.ext ?_)
  fin_cases a
  · show (y (0 : Fin 3)).val = 0 * 717 + 1 * (y (0 : Fin 3)).val; omega
  · show (y (1 : Fin 3)).val = 0 * 128 + 1 * (y (1 : Fin 3)).val; omega
  · show (y (2 : Fin 3)).val = 0 * 128 + 1 * (y (2 : Fin 3)).val; omega

/-- The host lines after the region leave the result. -/
theorem W_main_v22 (c : Dev nD) :
    Pipeline.afterTail₀ cfgs (dats m) 0 (V0 m) [hostOps1] c main_v22
      = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  simp only [hostOps1, List.flatten_cons, List.flatten_nil, List.append_nil]
  after_results
  have hv : Pipeline.withArrays (Pipeline.Cfg.spec cfg0) c (V0 m c)
      (fun w => (dats m 0 c).arrAt w cfg0.N) (Proc.tc.devRef main_v4) = k0_pay1 (m ((c : Thread nD τ).loc main_arg3)) (m ((c : Thread nD τ).loc main_arg4)) :=
    (Pipeline.withArrays_arr spec0 (by decide) c (V0 m c) _ 2).trans (arr2 m c)
  have h0 : Pipeline.withArrays (Pipeline.Cfg.spec cfg0) c (V0 m c)
      (fun w => (dats m 0 c).arrAt w cfg0.N) (Proc.tc.devRef main_arg0) = m ((c : Thread nD τ).loc main_arg0) :=
    (Pipeline.withArrays_of_ne spec0 c (V0 m c) _ main_arg0 (by decide)).trans (V_main_arg0 m c)
  have h2 : Pipeline.withArrays (Pipeline.Cfg.spec cfg0) c (V0 m c)
      (fun w => (dats m 0 c).arrAt w cfg0.N) (Proc.tc.devRef main_arg2) = m ((c : Thread nD τ).loc main_arg2) :=
    (Pipeline.withArrays_of_ne spec0 c (V0 m c) _ main_arg2 (by decide)).trans (V_main_arg2 m c)
  have h3 : Pipeline.withArrays (Pipeline.Cfg.spec cfg0) c (V0 m c)
      (fun w => (dats m 0 c).arrAt w cfg0.N) (Proc.tc.devRef main_v3) = entryRow (m ((c : Thread nD τ).loc main_arg1)) :=
    (Pipeline.withArrays_of_ne spec0 c (V0 m c) _ main_v3 (by decide)).trans (V_main_v3 m c)
  unfold result
  rw [← hv, ← h0, ← h2, ← h3]
  rfl

/-- The reference's run, with the result named. -/
theorem run : θ_run defs (onTc (τ := τ) (main (F := F))) ⟨m, fun _ => 0, ρ⟩ (fun r => ∀ c : Dev nD,
      r.2.mem ((c.tc : Thread nD τ).loc main_v22) = result (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v22 (Pipeline.mem_restRefs_of main_v22 (by decide) (by decide))).trans (W_main_v22 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩) (run_main m ρ)

end Cert.Proof.Reference
-- ==== Proof.Reference.Rows.lean ====
/- The block row of an entry, as a number: the row whose pointers the entry lies between; and the words the scatter is given. -/
module

public import proofs.«01_k».proof.Proof.Reference.Run
public import proofs.«01_k».proof.Proof.Sparse
public import Idealize.ShloMosaic.Lib.StableHlo.Predicate
public import Idealize.ShloMosaic.Lib.Routing.OpsSet
public import Idealize.ShloMosaic.Lib.Pointwise

@[expose] public section

noncomputable section

namespace Cert.Proof.Reference

open Cert.ReferenceIdeal Cert.ReferenceIdeal.Gen
open Idealize.ShloMosaic

variable {F : FTy → Type} [FloatOps F]

/-- Pointers that rise one step at a time rise over any number of steps. -/
theorem ptr_mono {x1 : S33.Idx → BitVec 32} {x2 : S717.Idx → BitVec 32} (h : InRange x1 x2) {r q : ℕ} (hrq : r ≤ q) (hq : q ≤ 32) :
    (ptrWord x1 r).toNat ≤ (ptrWord x1 q).toNat := by
  induction q, hrq using Nat.le_induction with
  | base => exact le_rfl
  | succ n hn ih => exact (ih (by omega)).trans (h.le n (by omega))

/-- No pointer passes the number of entries. -/
theorem ptr_le {x1 : S33.Idx → BitVec 32} {x2 : S717.Idx → BitVec 32} (h : InRange x1 x2) {r : ℕ} (hr : r ≤ 32) : (ptrWord x1 r).toNat ≤ 717 :=
  (ptr_mono h hr le_rfl).trans (h.top 31 (by omega))

/-- The count of an entry is the number of rows whose pointer is at most the entry's number. -/
theorem rowCount_toNat {x1 : Vec F S33 .i32} {x2 : Vec F S717 .i32} (h : InRange x1 x2) (e : Fin 717) :
    (rowCount (F := F) x1 (ix1 e) : BitVec 32).toNat = (Finset.univ.filter (fun p : Fin 33 => (ptrWord x1 p.val).toNat ≤ e.val)).card := by
  refine (StableHlo.Predicate.toNat_reduce_count_rows (by decide) _ _ _ _ (ix1 e)).trans (congrArg Finset.card (Finset.filter_congr fun p _ => ?_))
  have hp : p.val % 33 = p.val := Nat.mod_eq_of_lt p.isLt
  have hx : (ptrWord x1 p.val) = x1 (ix1 p) := congrArg x1 (congrArg ix1 (Fin.ext hp))
  have hl := ptr_le h (r := p.val) (by omega)
  have key : IntOp.cmpi .sle (ptrWord x1 p.val) (BitVec.ofNat 32 e.val) = 1#1 ↔ (ptrWord x1 p.val).toNat ≤ e.val := by
    rw [StableHlo.Predicate.sle_iff_toNat (by omega) (by rw [BitVec.toNat_ofNat]; omega), BitVec.toNat_ofNat, Nat.mod_eq_of_lt (by omega)]
  have hij : StableHlo.Predicate.ij p ((ix1 e : S717.Idx) 0) = ix2 p e := funext fun a => match a with | ⟨0, _⟩ => rfl | ⟨1, _⟩ => rfl
  refine Iff.trans (Eq.congr_left ((congrArg (cmpi .sle _ _) hij).trans ?_)) key
  rw [hx]
  pointwise

/-- An initial stretch of the rows: as many rows have a pointer at most `e` as come before the first pointer past `e`. -/
theorem card_rows {x1 : S33.Idx → BitVec 32} {x2 : S717.Idx → BitVec 32} (h : InRange x1 x2) {e r : ℕ} (hr : r < 32) (h1 : (ptrWord x1 r).toNat ≤ e)
    (h2 : e < (ptrWord x1 (r + 1)).toNat) : (Finset.univ.filter (fun p : Fin 33 => (ptrWord x1 p.val).toNat ≤ e)).card = r + 1 := by
  have : Finset.univ.filter (fun p : Fin 33 => (ptrWord x1 p.val).toNat ≤ e) = Finset.Iio (⟨r + 1, by omega⟩ : Fin 33) := by
    ext p
    rw [Finset.mem_filter, Finset.mem_Iio, Fin.lt_def]
    refine ⟨fun hp => ?_, fun hp => ⟨Finset.mem_univ _, (ptr_mono h (by show p.val ≤ r; change p.val < r + 1 at hp; omega) (by omega)).trans h1⟩⟩
    by_contra hc
    have := ptr_mono h (r := r + 1) (q := p.val) (by change ¬ p.val < r + 1 at hc; omega) (by omega)
    have := hp.2
    omega
  rw [this, Fin.card_Iio]

/-- Every entry below the last pointer lies in a row; one past it lies in none, and its count is 33. -/
theorem row_cases {x1 : S33.Idx → BitVec 32} {x2 : S717.Idx → BitVec 32} (h : Sparse x1 x2) (e : ℕ) :
    (∃ r < 32, (ptrWord x1 r).toNat ≤ e ∧ e < (ptrWord x1 (r + 1)).toNat) ∨ (ptrWord x1 32).toNat ≤ e := by
  by_contra hc
  push Not at hc
  have : ∀ r, r ≤ 32 → (ptrWord x1 r).toNat ≤ e := fun r => by
    induction r with
    | zero => intro _; rw [h.zero]; exact Nat.zero_le _
    | succ n ih => exact fun hn => hc.1 n (by omega) (ih (by omega))
  have := this 32 le_rfl
  omega

/-- The block row of an entry is `r` exactly when the entry lies between row `r`'s pointers. -/
theorem entryRow_iff {x1 : Vec F S33 .i32} {x2 : Vec F S717 .i32} (h : Sparse x1 x2) (e : Fin 717) {r : ℕ} (hr : r < 32) :
    (entryRow (F := F) x1 (ix1 e) : BitVec 32).toNat = r ↔ (ptrWord x1 r).toNat ≤ e.val ∧ e.val < (ptrWord x1 (r + 1)).toNat := by
  have hc := rowCount_toNat (F := F) h.toInRange e
  have hs : (entryRow (F := F) x1 (ix1 e) : BitVec 32) = (rowCount (F := F) x1 (ix1 e) : BitVec 32) - 1#32 := rfl
  rw [hs]
  generalize (rowCount (F := F) x1 (ix1 e) : BitVec 32) = w at hc
  rcases row_cases h e.val with ⟨q, hq, h1, h2⟩ | h3
  · rw [card_rows h.toInRange hq h1 h2] at hc
    have hw : (w - 1#32).toNat = q := by rw [BitVec.toNat_sub, hc]; simp; omega
    rw [hw]
    refine ⟨fun hqr => hqr ▸ ⟨h1, h2⟩, fun hx => ?_⟩
    have a := card_rows h.toInRange hr hx.1 hx.2
    rw [card_rows h.toInRange hq h1 h2] at a
    omega
  · have hall : Finset.univ.filter (fun p : Fin 33 => (ptrWord x1 p.val).toNat ≤ e.val) = Finset.univ :=
      Finset.filter_true_of_mem fun p _ => (ptr_mono h.toInRange (by omega) le_rfl).trans h3
    rw [hall, Finset.card_univ, Fintype.card_fin] at hc
    have hw : (w - 1#32).toNat = 32 := by rw [BitVec.toNat_sub, hc]; simp
    rw [hw]
    have := ptr_mono h.toInRange (r := r + 1) (q := 32) (by omega) le_rfl
    omega

/-- No block row passes 32. -/
theorem entryRow_le {x1 : Vec F S33 .i32} {x2 : Vec F S717 .i32} (h : Sparse x1 x2) (e : Fin 717) :
    (entryRow (F := F) x1 (ix1 e) : BitVec 32).toNat ≤ 32 := by
  have hc := rowCount_toNat (F := F) h.toInRange e
  have hs : (entryRow (F := F) x1 (ix1 e) : BitVec 32) = (rowCount (F := F) x1 (ix1 e) : BitVec 32) - 1#32 := rfl
  rw [hs]
  generalize (rowCount (F := F) x1 (ix1 e) : BitVec 32) = w at hc
  have h0 : 0 < (Finset.univ.filter (fun p : Fin 33 => (ptrWord x1 p.val).toNat ≤ e.val)).card :=
    Finset.card_pos.2 ⟨0, Finset.mem_filter.2 ⟨Finset.mem_univ _, by show (ptrWord x1 0).toNat ≤ _; rw [h.zero]; exact Nat.zero_le _⟩⟩
  have h1 := Finset.card_filter_le (Finset.univ : Finset (Fin 33)) (fun p => (ptrWord x1 p.val).toNat ≤ e.val)
  rw [Finset.card_univ, Fintype.card_fin] at h1
  rw [BitVec.toNat_sub, hc]; simp; omega

/-- A word that is not negative is left as it is. -/
theorem wrap_apply (n : BitVec 32) (v : Vec F S717 .i32) (i : S717.Idx) (h : BitVec.toNat (w := 32) (v i) < 2 ^ 31) : wrap (F := F) n v i = v i :=
  Routing.wrap_of_lt (w := 32) (v i) _ h

/-- The first word of an entry's place is its block row. -/
theorem places_row (row col : Vec F S717 .i32) (e : Fin 717) (h : BitVec.toNat (w := 32) (row (ix1 e)) < 2 ^ 31) :
    places (F := F) row col (ix2 e 0) = row (ix1 e) := by
  refine Eq.trans ?_ (wrap_apply (F := F) 32#32 row (ix1 e) h)
  simp only [places]
  pointwise

/-- The second word of an entry's place is its block column. -/
theorem places_col (row col : Vec F S717 .i32) (e : Fin 717) (h : BitVec.toNat (w := 32) (col (ix1 e)) < 2 ^ 31) :
    places (F := F) row col (ix2 e 1) = col (ix1 e) := by
  refine Eq.trans ?_ (wrap_apply (F := F) 112#32 col (ix1 e) h)
  simp only [places]
  pointwise

end Cert.Proof.Reference
-- ==== Proof.Reference.Dense.lean ====
/- The dense weights at an element: the scaled block of the entry placed there, or zero where no entry is placed. -/
module

public import proofs.«01_k».proof.Proof.Reference.Rows

@[expose] public section

noncomputable section

namespace Cert.Proof.Reference

open Cert.ReferenceIdeal Cert.ReferenceIdeal.Gen
open Idealize.ShloMosaic

variable {F : FTy → Type} [FloatOps F]

/-- The index of a four-dimensional array. -/
def at4 (r : Fin 32) (j : Fin 128) (c : Fin 112) (k : Fin 128) : S32x128x112x128.Idx
  | ⟨0, _⟩ => r
  | ⟨1, _⟩ => j
  | ⟨2, _⟩ => c
  | ⟨3, _⟩ => k

/-- The scatter of the blocks. -/
abbrev scat : ScatterDims S32x128x112x128 S717x2 S717x128x128 := scatter_S32x128x112x128_S717x2_S717x128x128_12_02_02_1

/-- Where an update starts: its first word on the block rows, its second on the block columns. -/
theorem scat_start (idx : IVec S717x2 32) (e : Fin 717) (a b : Fin 128) :
    (scat).start (ix3 e a b) idx 0 = (idx (ix2 e 0)).toInt ∧ (scat).start (ix3 e a b) idx 1 = 0
      ∧ (scat).start (ix3 e a b) idx 2 = (idx (ix2 e 1)).toInt ∧ (scat).start (ix3 e a b) idx 3 = 0 := by
  have hs : ∀ (n : ℕ) (hn : n < 2) (h : n < (scat).scatterDimsToOperandDims.length), (scat).siIdx (ix3 e a b) ⟨n, h⟩ = ix2 e ⟨n, hn⟩ := fun n hn h => by
    funext x
    match x with
    | ⟨0, _⟩ => rfl
    | ⟨1, _⟩ => rfl
  refine ⟨?_, rfl, ?_, rfl⟩
  · exact congrArg (fun i => (idx i).toInt) (hs 0 (by decide) (by decide))
  · exact congrArg (fun i => (idx i).toInt) (hs 1 (by decide) (by decide))

/-- Where in its block an update is. -/
theorem scat_window (e : Fin 717) (a b : Fin 128) :
    (scat).window (ix3 e a b) 0 = 0 ∧ (scat).window (ix3 e a b) 1 = a.val ∧ (scat).window (ix3 e a b) 2 = 0 ∧ (scat).window (ix3 e a b) 3 = b.val :=
  ⟨rfl, rfl, rfl, rfl⟩

/-- Element `(a, b)` of entry `e`'s block lands at `(r, j, c, k)` exactly when the entry's place is `(r, c)` and `a = j`, `b = k`. -/
theorem scat_lands (idx : IVec S717x2 32) (e : Fin 717) (a b : Fin 128) (r : Fin 32) (j : Fin 128) (c : Fin 112) (k : Fin 128) :
    (scat).resultIdx? (ix3 e a b) idx = some (at4 r j c k)
      ↔ (idx (ix2 e 0)).toInt = r.val ∧ a = j ∧ (idx (ix2 e 1)).toInt = c.val ∧ b = k := by
  obtain ⟨s0, s1, s2, s3⟩ := scat_start idx e a b
  obtain ⟨w0, w1, w2, w3⟩ := scat_window e a b
  rw [Routing.resultIdx?_eq_some]
  constructor
  · intro h
    have h0 := h 0; have h1 := h 1; have h2 := h 2; have h3 := h 3
    rw [s0, w0] at h0; rw [s1, w1] at h1; rw [s2, w2] at h2; rw [s3, w3] at h3
    change _ = (r.val : Int) at h0; change _ = (j.val : Int) at h1; change _ = (c.val : Int) at h2; change _ = (k.val : Int) at h3
    exact ⟨by omega, Fin.ext (by omega), by omega, Fin.ext (by omega)⟩
  · rintro ⟨h0, h1, h2, h3⟩ x
    match x with
    | ⟨0, _⟩ => exact (congrArg₂ (fun (u : Int) (v : ℕ) => u + (v : Int)) s0 w0).trans (by show _ = (r.val : Int); omega)
    | ⟨1, _⟩ => exact (congrArg₂ (fun (u : Int) (v : ℕ) => u + (v : Int)) s1 w1).trans (by show _ = (j.val : Int); omega)
    | ⟨2, _⟩ => exact (congrArg₂ (fun (u : Int) (v : ℕ) => u + (v : Int)) s2 w2).trans (by show _ = (c.val : Int); omega)
    | ⟨3, _⟩ => exact (congrArg₂ (fun (u : Int) (v : ℕ) => u + (v : Int)) s3 w3).trans (by show _ = (k.val : Int); omega)

/-- An entry's place is `(r, c)` exactly when it lies in row `r` and its column word is `c`. -/
theorem place_iff {x1 : Vec F S33 .i32} {x2 : Vec F S717 .i32} (h : Sparse x1 x2) (e : Fin 717) (r : Fin 32) (c : Fin 112) :
    ((places (F := F) (entryRow x1) x2 (ix2 e 0) : BitVec 32).toInt = r.val ∧ (places (F := F) (entryRow x1) x2 (ix2 e 1) : BitVec 32).toInt = c.val)
      ↔ ((ptrWord x1 r.val).toNat ≤ e.val ∧ e.val < (ptrWord x1 (r.val + 1)).toNat) ∧ BitVec.toNat (w := 32) (x2 (ix1 e)) = c.val := by
  have hr := entryRow_le (F := F) h e
  have hc := h.col (ix1 e)
  rw [places_row _ _ e (by omega), places_col _ _ e (by omega), ← entryRow_iff (F := F) h e r.isLt,
    BitVec.toInt_eq_toNat_of_lt (by omega), BitVec.toInt_eq_toNat_of_lt (by omega)]
  omega

/-- Where entry `e` of row `r` has column `c`, the dense weights hold its block. -/
theorem dense_hit {x1 : Vec F S33 .i32} {x2 : Vec F S717 .i32} (h : Sparse x1 x2) (u : Vec F S717x128x128 .bf16) (e : Fin 717)
    (r : Fin 32) (j : Fin 128) (c : Fin 112) (k : Fin 128) (h1 : (ptrWord x1 r.val).toNat ≤ e.val) (h2 : e.val < (ptrWord x1 (r.val + 1)).toNat)
    (h3 : BitVec.toNat (w := 32) (x2 (ix1 e)) = c.val) : dense (places (F := F) (entryRow x1) x2) u (at4 r j c k) = u (ix3 e j k) := by
  have hp := (place_iff (F := F) h e r c).2 ⟨⟨h1, h2⟩, h3⟩
  refine Routing.scatter_set_hit scat _ _ _ _ _ (fun i hi => ?_) (ix3 e j k) ((scat_lands _ e j k r j c k).2 ⟨hp.1, rfl, hp.2, rfl⟩)
  obtain ⟨d, a, b, rfl⟩ : ∃ (d : Fin 717) (a b : Fin 128), i = ix3 d a b :=
    ⟨i 0, i 1, i 2, funext fun x => match x with | ⟨0, _⟩ => rfl | ⟨1, _⟩ => rfl | ⟨2, _⟩ => rfl⟩
  obtain ⟨q0, rfl, q2, rfl⟩ := (scat_lands _ d a b r j c k).1 hi
  obtain ⟨⟨g1, g2⟩, g3⟩ := (place_iff (F := F) h d r c).1 ⟨q0, q2⟩
  have hx : (x2 (ix1 d) : BitVec 32) = x2 (ix1 e) := BitVec.eq_of_toNat_eq (g3.trans h3.symm)
  have : d = e := by
    rcases lt_trichotomy d.val e.val with hl | he | hl
    · exact (h.distinct r.val r.isLt d e g1 hl h2 hx).elim
    · exact Fin.ext he
    · exact (h.distinct r.val r.isLt e d h1 hl g2 hx.symm).elim
  rw [this]

/-- Where no entry of row `r` has column `c`, the dense weights hold the zero they began with. -/
theorem dense_miss {x1 : Vec F S33 .i32} {x2 : Vec F S717 .i32} (h : Sparse x1 x2) (u : Vec F S717x128x128 .bf16)
    (r : Fin 32) (j : Fin 128) (c : Fin 112) (k : Fin 128)
    (hno : ∀ e : Fin 717, (ptrWord x1 r.val).toNat ≤ e.val → e.val < (ptrWord x1 (r.val + 1)).toNat → BitVec.toNat (w := 32) (x2 (ix1 e)) ≠ c.val) :
    dense (places (F := F) (entryRow x1) x2) u (at4 r j c k) = FloatOps.ofBits (F := F) .bf16 0x0000#16 := by
  refine (Routing.scatter_set_miss scat _ _ _ _ (fun i hi => ?_)).trans rfl
  obtain ⟨d, a, b, rfl⟩ : ∃ (d : Fin 717) (a b : Fin 128), i = ix3 d a b :=
    ⟨i 0, i 1, i 2, funext fun x => match x with | ⟨0, _⟩ => rfl | ⟨1, _⟩ => rfl | ⟨2, _⟩ => rfl⟩
  obtain ⟨q0, _, q2, _⟩ := (scat_lands _ d a b r j c k).1 hi
  obtain ⟨⟨g1, g2⟩, g3⟩ := (place_iff (F := F) h d r c).1 ⟨q0, q2⟩
  exact hno d g1 g2 g3

end Cert.Proof.Reference
-- ==== Proof.Reference.Product.lean ====
/- The reference's product at an element: a sum over the columns of x. -/
module

public import proofs.«01_k».proof.Proof.Reference.Dense

@[expose] public section

noncomputable section

namespace Cert.Proof.Reference

open Cert.ReferenceIdeal Cert.ReferenceIdeal.Gen
open Idealize.ShloMosaic

/-- The dense weights of a row and column of the matrix they are reshaped into. -/
theorem dense_reshaped (d : Vec Ideal S32x128x112x128 .bf16) (o : Fin 4096) (K : Fin 14336) :
    shapeCast S4096x14336 d shapeCasts_S32x128x112x128_S4096x14336 (ix2 o K)
      = d (at4 ⟨o.val / 128, by omega⟩ ⟨o.val % 128, by omega⟩ ⟨K.val / 128, by omega⟩ ⟨K.val % 128, by omega⟩) := by
  refine shapeCast_apply _ _ _ _ ?_
  rw [Shape.rowMajor_val_two, Shape.rowMajor_val_four]
  show ((o.val / 128 * 128 + o.val % 128) * 112 + K.val / 128) * 128 + K.val % 128 = o.val * 14336 + K.val
  omega

/-- The product at an element, as one sum over the columns of x. -/
theorem product_apply (x : Vec Ideal S2x3072x14336 .bf16) (row col : Vec Ideal S717 .i32) (u : Vec Ideal S717x128x128 .bf16)
    (p : Fin 2) (q : Fin 3072) (o : Fin 4096) :
    (product x row col u (ix3 p q o) : EReal)
      = ∑ K : Fin 14336, x (ix3 p q K) * dense (places (F := Ideal) row col) u
          (at4 ⟨o.val / 128, by omega⟩ ⟨o.val % 128, by omega⟩ ⟨K.val / 128, by omega⟩ ⟨K.val % 128, by omega⟩) := by
  unfold product
  generalize dense (places (F := Ideal) row col) u = d
  simp only [← dense_reshaped]
  pointwise

/-- The same sum, a column block at a time. -/
theorem product_blocks (x : Vec Ideal S2x3072x14336 .bf16) (row col : Vec Ideal S717 .i32) (u : Vec Ideal S717x128x128 .bf16)
    (p : Fin 2) (q : Fin 3072) (o : Fin 4096) :
    (product x row col u (ix3 p q o) : EReal)
      = ∑ c : Fin 112, ∑ k : Fin 128, x (ix3 p q ⟨128 * c.val + k.val, by omega⟩) * dense (places (F := Ideal) row col) u
          (at4 ⟨o.val / 128, by omega⟩ ⟨o.val % 128, by omega⟩ c k) := by
  rw [product_apply, ← (finProdFinEquiv (m := 112) (n := 128)).sum_comp, Fintype.sum_prod_type]
  refine Finset.sum_congr rfl fun c _ => Finset.sum_congr rfl fun k _ => ?_
  have e : (finProdFinEquiv (m := 112) (n := 128) (c, k)).val = 128 * c.val + k.val := by rw [finProdFinEquiv_apply_val]; exact Nat.add_comm _ _
  congr 2
  · exact congrArg (ix3 p q) (Fin.ext e)
  · congr 1
    · exact Fin.ext (by show (finProdFinEquiv (m := 112) (n := 128) (c, k)).val / 128 = c.val; rw [e]; omega)
    · exact Fin.ext (by show (finProdFinEquiv (m := 112) (n := 128) (c, k)).val % 128 = k.val; rw [e]; omega)

/-- The scaled blocks at an element. -/
theorem scaled_apply (b : Vec Ideal S717x128x128 .fp8e4m3) (s : Vec Ideal S717 .f32) (e : Fin 717) (j k : Fin 128) :
    (k0_pay1 b s (ix3 e j k) : EReal) = b (ix3 e j k) * s (ix1 e) := by
  simp only [k0_pay1]
  pointwise

end Cert.Proof.Reference
-- ==== Proof.Equation.lean ====
/- The kernel's result is the reference's, where the tables describe a block-sparse matrix. At an element of block row `r` both are
   sums over column blocks: the kernel adds the entries of the row, the reference every column block, with the row's entry there
   or zero. -/
module

public import proofs.«01_k».proof.Proof.KernelIdeal.Result
public import proofs.«01_k».proof.Proof.Reference.Product

@[expose] public section

noncomputable section

namespace Cert.Proof

open Cert.ReferenceIdeal Cert.ReferenceIdeal.Gen
open Idealize.ShloMosaic
open Cert.Proof.KernelIdeal (ent colOf ptrOf)

variable {x : Vec Ideal S2x3072x14336 .bf16} {x1 : Vec Ideal S33 .i32} {x2 : Vec Ideal S717 .i32} {b : Vec Ideal S717x128x128 .fp8e4m3} {s : Vec Ideal S717 .f32}

/-- What entry `n` adds to element `(p, q)` of row `j` of its block of the result. -/
def entryTerm (x : Vec Ideal S2x3072x14336 .bf16) (x2 : Vec Ideal S717 .i32) (b : Vec Ideal S717x128x128 .fp8e4m3) (s : Vec Ideal S717 .f32)
    (p : Fin 2) (q : Fin 3072) (j : Fin 128) (n : ℕ) : EReal :=
  ∑ k : Fin 128, x (ix3 p q ⟨(128 * colOf x2 n + k.val) % 14336, Nat.mod_lt _ (by decide)⟩)
    * (b (ix3 ⟨n % 717, Nat.mod_lt _ (by decide)⟩ j k) * s (ent n))

/-- One column block of the reference's sum is what the row's entries in that column add: one entry's, or nothing. -/
theorem column_eq (h : Sparse x1 x2) (p : Fin 2) (q : Fin 3072) (r : Fin 32) (j : Fin 128) (c : Fin 112) :
    (∑ k : Fin 128, x (ix3 p q ⟨128 * c.val + k.val, by omega⟩)
        * Reference.dense (Reference.places (F := Ideal) (Reference.entryRow x1) x2) (k0_pay1 b s) (Reference.at4 r j c k) : EReal)
      = ∑ n ∈ (Finset.Ico (ptrOf x1 r.val) (ptrOf x1 (r.val + 1))).filter (fun n => colOf x2 n = c.val), entryTerm x x2 b s p q j n := by
  have htop : ptrOf x1 (r.val + 1) ≤ 717 := h.top r.val r.isLt
  by_cases hx : ∃ e : Fin 717, (ptrWord x1 r.val).toNat ≤ e.val ∧ e.val < (ptrWord x1 (r.val + 1)).toNat ∧ BitVec.toNat (w := 32) (x2 (ix1 e)) = c.val
  · obtain ⟨e, h1, h2, h3⟩ := hx
    have he : (⟨e.val % 717, Nat.mod_lt _ (by decide)⟩ : Fin 717) = e := Fin.ext (Nat.mod_eq_of_lt e.isLt)
    have hent : ent e.val = ix1 e := congrArg ix1 he
    have hcol : colOf x2 e.val = c.val := by unfold colOf; rw [hent]; exact h3
    have hf : (Finset.Ico (ptrOf x1 r.val) (ptrOf x1 (r.val + 1))).filter (fun n => colOf x2 n = c.val) = {e.val} := by
      ext n
      rw [Finset.mem_filter, Finset.mem_Ico, Finset.mem_singleton]
      constructor
      · rintro ⟨⟨g1, g2⟩, g3⟩
        have hn : n < 717 := by omega
        have hn' : ent n = ix1 (⟨n, hn⟩ : Fin 717) := congrArg ix1 (Fin.ext (Nat.mod_eq_of_lt hn))
        have hw : (x2 (ix1 (⟨n, hn⟩ : Fin 717)) : BitVec 32) = x2 (ix1 e) :=
          BitVec.eq_of_toNat_eq (by rw [h3, ← hn']; exact g3)
        rcases lt_trichotomy n e.val with hl | hl | hl
        · exact (h.distinct r.val r.isLt ⟨n, hn⟩ e g1 hl h2 hw).elim
        · exact hl
        · exact (h.distinct r.val r.isLt e ⟨n, hn⟩ h1 hl g2 hw.symm).elim
      · rintro rfl
        exact ⟨⟨h1, h2⟩, hcol⟩
    rw [hf, Finset.sum_singleton]
    refine Finset.sum_congr rfl fun k _ => ?_
    rw [Reference.dense_hit h (k0_pay1 b s) e r j c k h1 h2 h3, Reference.scaled_apply, hent, he]
    congr 3
    exact Fin.ext (by show 128 * c.val + k.val = (128 * colOf x2 e.val + k.val) % 14336; rw [hcol]; omega)
  · have hf : (Finset.Ico (ptrOf x1 r.val) (ptrOf x1 (r.val + 1))).filter (fun n => colOf x2 n = c.val) = ∅ := by
      refine Finset.filter_eq_empty_iff.2 fun n hn hc => hx ?_
      rw [Finset.mem_Ico] at hn
      have hlt : n < 717 := by omega
      have hn' : ent n = ix1 (⟨n, hlt⟩ : Fin 717) := congrArg ix1 (Fin.ext (Nat.mod_eq_of_lt hlt))
      exact ⟨⟨n, hlt⟩, hn.1, hn.2, by rw [← hn']; exact hc⟩
    rw [hf, Finset.sum_empty]
    refine Finset.sum_eq_zero fun k _ => ?_
    rw [Reference.dense_miss h (k0_pay1 b s) r j c k fun e g1 g2 g3 => hx ⟨e, g1, g2, g3⟩]
    have hz : (FloatOps.ofBits (F := Ideal) .bf16 0x0000#16 : EReal) = 0 := by
      pointwise
    rw [hz, mul_zero]

/-- The two results are equal. -/
theorem result_eq (h : Sparse x1 x2) : KernelIdeal.result x x1 x2 b s = Reference.result x x1 x2 b s := by
  funext i
  obtain ⟨p, q, o, rfl⟩ : ∃ (p : Fin 2) (q : Fin 3072) (o : Fin 4096), i = ix3 p q o :=
    ⟨i 0, i 1, i 2, funext fun a => match a with | ⟨0, _⟩ => rfl | ⟨1, _⟩ => rfl | ⟨2, _⟩ => rfl⟩
  have hr : o.val / 128 < 32 := by omega
  refine (KernelIdeal.result_apply x x1 x2 b s (fun r hr => h.le r hr) p q o).trans (Eq.trans ?_ (Reference.product_blocks x _ _ _ p q o).symm)
  refine Eq.trans ?_ (Finset.sum_congr rfl fun c _ => (column_eq (x := x) (b := b) (s := s) h p q ⟨o.val / 128, hr⟩ ⟨o.val % 128, by omega⟩ c).symm)
  have hcol : ∀ n, colOf x2 n < 112 := fun n => h.col (ent n)
  refine (Finset.sum_fiberwise _ (fun n => (⟨colOf x2 n, hcol n⟩ : Fin 112)) (entryTerm x x2 b s p q ⟨o.val % 128, by omega⟩)).symm.trans
    (Finset.sum_congr rfl fun c _ => Finset.sum_congr (Finset.filter_congr fun n _ => ?_) fun _ _ => rfl)
  exact Fin.ext_iff

end Cert.Proof
-- ==== Proof.Kernel.Words.lean ====
/- The words of the row-pointer and column tables: what the kernel's scalar arithmetic makes of them.
   A row's first and last-plus-one entry are two words `v2`, `v5`; where they read as numbers `b ≤ e ≤ 717`, the inner loop
   makes `(e - b) / 2` trips (one pair of entries a trip), its remainder copy none, the odd entry is taken exactly where
   `e - b` is odd, and every access of the tables and of the blocks lies inside its buffer. -/
module

public import proofs.«01_k».proof.Proof.Gen.Kernel
public import Idealize.ShloMosaic.Lib.Affine
public import Idealize.ShloMosaic.Lib.LoopRemainder

@[expose] public section

namespace Cert.Proof.Kernel

open Cert.Kernel Cert.Kernel.Gen
open Idealize.ShloMosaic

/-- The two words of a row read as numbers in order and inside the table of entries. -/
structure RowWords (v2 v5 : BitVec 32) : Prop where
  le : v2.toNat ≤ v5.toNat
  top : v5.toNat ≤ 717

/-- The number of pairs of entries in a row of `n` entries, as the kernel computes it. -/
def pairsOf (n : BitVec 32) : BitVec 32 :=
  let c0 : BitVec 32 := 0#32
  let s := Scalar.subi (Scalar.extui (Scalar.cmpi .sgt n c0)) (Scalar.extui (Scalar.cmpi .slt n c0))
  let s2 := Scalar.subi (Scalar.extui (Scalar.cmpi .sgt 2#32 c0)) (Scalar.extui (Scalar.cmpi .slt 2#32 c0))
  let down := Scalar.andi (Scalar.cmpi .ne s s2) (Scalar.cmpi .ne (Scalar.remsi n 2#32) c0)
  let q := Scalar.divsi n 2#32
  Scalar.subi (Scalar.select down (Scalar.subi q 1#32) q) c0

/-- Whether a row of `n` entries has an odd one, as the kernel computes it. -/
def oddOf (n : BitVec 32) : BitVec 1 :=
  let c0 : BitVec 32 := 0#32
  let two := Scalar.select (Scalar.cmpi .eq 2#32 c0) 1#32 2#32
  let r := Scalar.remsi n two
  let wrap := Scalar.andi (Scalar.xori (Scalar.cmpi .slt r c0) (Scalar.cmpi .slt two c0)) (Scalar.cmpi .ne r c0)
  Scalar.cmpi .ne (Scalar.extui (Scalar.cmpi .eq (Scalar.select wrap (Scalar.addi r two) r) 1#32)) c0

theorem pairsOf_eq : ∀ n : Fin 718, pairsOf (BitVec.ofNat 32 n.val) = BitVec.ofNat 32 (n.val / 2) := by decide +kernel
theorem oddOf_eq : ∀ n : Fin 718, oddOf (BitVec.ofNat 32 n.val) = if n.val % 2 = 1 then 1#1 else 0#1 := by decide +kernel

theorem cond1_eq_oddOf (v2 v5 : BitVec 32) : k0_cond1 v2 v5 = oddOf (Scalar.subi v5 v2) := rfl
theorem t2_ub (v2 v5 : BitVec 32) :
    (k0_t2_loop v2 v5).ub = Scalar.addi 0#32 (Scalar.muli (Scalar.divsi (pairsOf (Scalar.subi v5 v2)) 1#32) 1#32) := rfl
theorem t3_lb (v2 v5 : BitVec 32) :
    (k0_t3_loop v2 v5).lb = Scalar.addi 0#32 (Scalar.muli (Scalar.divsi (pairsOf (Scalar.subi v5 v2)) 1#32) 1#32) := rfl
theorem t3_ub (v2 v5 : BitVec 32) : (k0_t3_loop v2 v5).ub = Scalar.addi 0#32 (pairsOf (Scalar.subi v5 v2)) := rfl

variable {v2 v5 : BitVec 32}

/-- The number of entries of the row. -/
theorem RowWords.sub (h : RowWords v2 v5) : Scalar.subi v5 v2 = BitVec.ofNat 32 (v5.toNat - v2.toNat) := by
  have h1 := h.le; have h2 := h.top
  apply BitVec.eq_of_toNat_eq
  simp only [Scalar.subi, IntOp.subi, BitVec.toNat_sub, BitVec.toNat_ofNat]
  omega

theorem RowWords.pairs (h : RowWords v2 v5) :
    pairsOf (Scalar.subi v5 v2) = BitVec.ofNat 32 ((v5.toNat - v2.toNat) / 2) := by
  have h1 := h.le; have h2 := h.top
  rw [h.sub]; exact pairsOf_eq ⟨v5.toNat - v2.toNat, by omega⟩

/-- The odd entry is taken exactly where the row's number of entries is odd. -/
theorem RowWords.cond (h : RowWords v2 v5) : k0_cond1 v2 v5 = 1#1 ↔ (v5.toNat - v2.toNat) % 2 = 1 := by
  have h1 := h.le; have h2 := h.top
  rw [cond1_eq_oddOf, h.sub, oddOf_eq ⟨v5.toNat - v2.toNat, by omega⟩]
  dsimp only
  split <;> simp_all

theorem RowWords.ub (h : RowWords v2 v5) : (k0_t2_loop v2 v5).ub = BitVec.ofNat 32 ((v5.toNat - v2.toNat) / 2) := by
  rw [t2_ub, Scalar.muli_divsi_one, h.pairs]
  simp [Scalar.addi, IntOp.addi]

/-- The inner loop makes one trip for each pair of entries of the row. -/
theorem RowWords.trips (h : RowWords v2 v5) : (k0_t2_loop v2 v5).trips = (v5.toNat - v2.toNat) / 2 := by
  have h1 := h.le; have h2 := h.top
  exact Affine.trips_eq (Affine.ofNat 0 ⟨rfl, by decide⟩)
    (by rw [h.ub]; exact Affine.ofNat ((v5.toNat - v2.toNat) / 2) ⟨rfl, by omega⟩) (Affine.ofNat 1 ⟨rfl, by decide⟩) _
    ⟨by decide, by omega⟩

theorem RowWords.ok (h : RowWords v2 v5) : (k0_t2_loop v2 v5).OK := by
  have h1 := h.le; have h2 := h.top
  exact Affine.ok (Affine.ofNat 0 ⟨rfl, by decide⟩)
    (by rw [h.ub]; exact Affine.ofNat ((v5.toNat - v2.toNat) / 2) ⟨rfl, by omega⟩) (Affine.ofNat 1 ⟨rfl, by decide⟩)
    ⟨by decide, by omega⟩

/-- The remainder copy of the inner loop makes no trip. -/
theorem t3_trips (v2 v5 : BitVec 32) : (k0_t3_loop v2 v5).trips = 0 := Scf.rem_trips 0#32 (pairsOf (Scalar.subi v5 v2))
theorem t3_ok (v2 v5 : BitVec 32) : (k0_t3_loop v2 v5).OK := Scf.rem_ok 0#32 (pairsOf (Scalar.subi v5 v2))
theorem t3_none (v2 v5 : BitVec 32) (k : Fin (k0_t3_loop v2 v5).trips) : False :=
  Nat.not_lt_zero k.val (lt_of_lt_of_eq k.isLt (t3_trips v2 v5))

/-- The first entry of pair `k`. -/
theorem RowWords.fst (h : RowWords v2 v5) (k : Fin (k0_t2_loop v2 v5).trips) :
    (Scalar.addi v2 (Scalar.muli 2#32 (Scf.iv 0#32 1#32 k))).toNat = v2.toNat + 2 * k.val := by
  have h1 := h.le; have h2 := h.top; have hk := lt_of_lt_of_eq k.isLt h.trips
  rw [Scf.iv_eq_ofInt]
  simp only [Scalar.addi, IntOp.addi, Scalar.muli, IntOp.muli, BitVec.toNat_add, BitVec.toNat_mul]
  have : (BitVec.ofInt 32 ((0#32 : BitVec 32).toInt + (k.val : Int) * (1#32 : BitVec 32).toInt)).toNat = k.val := by
    simp [BitVec.toNat_ofInt]; omega
  rw [this]
  simp only [BitVec.toNat_ofNat]
  omega

/-- The second entry of pair `k`. -/
theorem RowWords.snd (h : RowWords v2 v5) (k : Fin (k0_t2_loop v2 v5).trips) :
    (Scalar.addi (Scalar.addi v2 (Scalar.muli 2#32 (Scf.iv 0#32 1#32 k))) 1#32).toNat = v2.toNat + 2 * k.val + 1 := by
  have h1 := h.le; have h2 := h.top; have hk := lt_of_lt_of_eq k.isLt h.trips
  have hf := h.fst k
  rw [Scalar.addi, IntOp.addi, BitVec.toNat_add, hf]
  simp only [BitVec.toNat_ofNat]
  omega

theorem RowWords.off3 (h : RowWords v2 v5) (k) : k0_off3 v2 v5 k = ![v2.toNat + 2 * k.val] := congrArg (fun n => ![n]) (h.fst k)
theorem RowWords.off5 (h : RowWords v2 v5) (k) : k0_off5 v2 v5 k = ![v2.toNat + 2 * k.val + 1] := congrArg (fun n => ![n]) (h.snd k)
theorem RowWords.off7 (h : RowWords v2 v5) (k) : k0_off7 v2 v5 k = ![v2.toNat + 2 * k.val] := congrArg (fun n => ![n]) (h.fst k)
theorem RowWords.off8 (h : RowWords v2 v5) (k) : k0_off8 v2 v5 k = ![v2.toNat + 2 * k.val, 0, 0] := congrArg (fun n => ![n, 0, 0]) (h.fst k)
theorem RowWords.off9 (h : RowWords v2 v5) (k) : k0_off9 v2 v5 k = ![v2.toNat + 2 * k.val + 1] := congrArg (fun n => ![n]) (h.snd k)
theorem RowWords.off10 (h : RowWords v2 v5) (k) : k0_off10 v2 v5 k = ![v2.toNat + 2 * k.val + 1, 0, 0] := congrArg (fun n => ![n, 0, 0]) (h.snd k)

/-- The last entry of a row that has one. -/
theorem last_toNat (h0 : 0 < v5.toNat) : (Scalar.subi v5 1#32).toNat = v5.toNat - 1 := by
  simp only [Scalar.subi, IntOp.subi, BitVec.toNat_sub, BitVec.toNat_ofNat]
  have := v5.isLt
  omega

theorem off19 (h0 : 0 < v5.toNat) : k0_off19 v5 = ![v5.toNat - 1] := congrArg (fun n => ![n]) (last_toNat h0)
theorem off21 (h0 : 0 < v5.toNat) : k0_off21 v5 = ![v5.toNat - 1] := congrArg (fun n => ![n]) (last_toNat h0)
theorem off22 (h0 : 0 < v5.toNat) : k0_off22 v5 = ![v5.toNat - 1, 0, 0] := congrArg (fun n => ![n, 0, 0]) (last_toNat h0)

/-- An entry inside the table of 717 words. -/
theorem inb1 {n : ℕ} (h : n < 717) : ∀ a, (![n] : Fin 1 → ℕ) a + S1.size a ≤ S717.size a := by
  intro a; fin_cases a; simp; omega

/-- An entry's block inside the 717 blocks. -/
theorem inb3 {n : ℕ} (h : n < 717) : ∀ a, (![n, 0, 0] : Fin 3 → ℕ) a + S1x128x128.size a ≤ S717x128x128.size a := by
  intro a; fin_cases a <;> simp <;> omega

/-- The side condition of a row holds of every row's words. -/
theorem RowWords.chk1 (h : RowWords v2 v5) : k0_chk1 v2 v5 := by
  have h1 := h.le; have h2 := h.top; have ht := h.trips
  have hc : k0_cond1 v2 v5 = 1#1 → 0 < v5.toNat := fun hc => by have := h.cond.mp hc; omega
  unfold k0_chk1
  refine ⟨h.ok, fun k => ?_, fun k => ?_, fun k => ?_, fun k => ?_, fun k => ?_, fun k => ?_, t3_ok _ _,
    fun k => (t3_none _ _ k).elim, fun k => (t3_none _ _ k).elim, fun k => (t3_none _ _ k).elim,
    fun k => (t3_none _ _ k).elim, fun k => (t3_none _ _ k).elim, fun k => (t3_none _ _ k).elim,
    fun hh => ?_, fun hh => ?_, fun hh => ?_⟩
  · rw [h.off3]; exact inb1 (by have := k.isLt; omega)
  · rw [h.off5]; exact inb1 (by have := k.isLt; omega)
  · rw [h.off7]; exact inb1 (by have := k.isLt; omega)
  · rw [h.off8]; exact inb3 (by have := k.isLt; omega)
  · rw [h.off9]; exact inb1 (by have := k.isLt; omega)
  · rw [h.off10]; exact inb3 (by have := k.isLt; omega)
  · rw [off19 (hc hh)]; exact inb1 (by have := hc hh; omega)
  · rw [off21 (hc hh)]; exact inb1 (by have := hc hh; omega)
  · rw [off22 (hc hh)]; exact inb3 (by have := hc hh; omega)

/-- A column word's first column of `x`. -/
theorem mul128 {w : BitVec 32} (h : w.toNat < 112) : (Scalar.muli w 128#32).toNat = 128 * w.toNat := by
  simp only [Scalar.muli, IntOp.muli, BitVec.toNat_mul, BitVec.toNat_ofNat]
  omega

theorem off4 {w : BitVec 32} (h : w.toNat < 112) : k0_off4 w = ![0, 128 * w.toNat] := congrArg (fun n => ![0, n]) (mul128 h)
theorem off6 {w : BitVec 32} (h : w.toNat < 112) : k0_off6 w = ![0, 128 * w.toNat] := congrArg (fun n => ![0, n]) (mul128 h)
theorem off20 {w : BitVec 32} (h : w.toNat < 112) : k0_off20 w = ![0, 128 * w.toNat] := congrArg (fun n => ![0, n]) (mul128 h)

/-- A column word's 128 columns inside `x`'s block. -/
theorem inb2 {n : ℕ} (h : n < 112) : ∀ a, (![0, 128 * n] : Fin 2 → ℕ) a + S512x128.size a ≤ S512x14336.size a := by
  intro a; fin_cases a <;> simp <;> omega

theorem chk2 {w : BitVec 32} (h : w.toNat < 112) : k0_chk2 w := by
  unfold k0_chk2
  refine ⟨⟨w.toNat, mul128 h⟩, ?_⟩
  rw [off4 h]; exact inb2 h
theorem chk3 {w : BitVec 32} (h : w.toNat < 112) : k0_chk3 w := by
  unfold k0_chk3
  refine ⟨⟨w.toNat, mul128 h⟩, ?_⟩
  rw [off6 h]; exact inb2 h
theorem chk6 {v2 v5 w : BitVec 32} (h : w.toNat < 112) : k0_chk6 v2 v5 w := by
  unfold k0_chk6
  refine ⟨fun _ => ⟨w.toNat, mul128 h⟩, fun _ => ?_⟩
  rw [off20 h]; exact inb2 h

end Cert.Proof.Kernel
-- ==== Proof.Kernel.Readers.lean ====
/- What the kernel computes for one block of x, as plain functions of the arrays it reads.
   The readers below (a column block of x, an entry's word, scale and block) take any number; where the number names an
   entry or a column block they are what a load at the kernel's offsets reads. `pairAcc` is a row's accumulator after some
   pairs of entries, `rowAcc` after all its entries, `outBlk` the row's block of the output. -/
module

public import proofs.«01_k».proof.Proof.Kernel.Words
public import proofs.«01_k».proof.Proof.Gen.Kernel.Loops
public import Idealize.ShloMosaic.Lib.Pipeline.FrameBody
public import Idealize.ShloMosaic.Lib.Pipeline.Value
public import Idealize.ShloMosaic.Lib.Pointwise.Index
public import Idealize.ShloMosaic.Lib.WritesUnit
public import Idealize.ShloMosaic.Lib.VecWindow

@[expose] public section

noncomputable section

namespace Cert.Proof.Kernel

open Cert.Kernel Cert.Kernel.Gen
open Idealize.ShloMosaic

variable {F : FTy → Type} [FloatOps F]

/-- The index of entry `n` in a table of the entries. -/
def ent (n : ℕ) : S717.Idx := ix1 ⟨n % 717, Nat.mod_lt _ (by decide)⟩

/-- Column block `w` of the block of x. -/
def colBlk (x4 : Vec F S512x14336 .bf16) (w : ℕ) : Vec F S512x128 .bf16 :=
  fun i => x4 (ix2 (i 0) ⟨(128 * w + (i 1).val) % 14336, Nat.mod_lt _ (by decide)⟩)

/-- The weight block of entry `n`. -/
def entBlk (x5 : Vec F S717x128x128 .fp8e4m3) (n : ℕ) : Vec F S1x128x128 .fp8e4m3 :=
  fun i => x5 (ix3 ⟨n % 717, Nat.mod_lt _ (by decide)⟩ (i 1) (i 2))

/-- The column block of entry `n`, as a number. -/
def colOf (x2 : Vec F S717 .i32) (n : ℕ) : ℕ := BitVec.toNat (w := 32) (x2 (ent n))

/-- Entry `r` of the row-pointer table, as a number. -/
def ptrOf (x1 : Vec F S33 .i32) (r : ℕ) : ℕ := BitVec.toNat (w := 32) (x1 (ix1 ⟨r % 33, Nat.mod_lt _ (by decide)⟩))

/-- The accumulator `a` after the pair of entries `n`, `n + 1`. -/
def pairStep (x2 : Vec F S717 .i32) (x3 : Vec F S717 .f32) (x4 : Vec F S512x14336 .bf16) (x5 : Vec F S717x128x128 .fp8e4m3)
    (n : ℕ) (a : Vec F S512x128 .f32) : Vec F S512x128 .f32 :=
  k0_pay6 (k0_pay3 (colBlk x4 (colOf x2 n)) (colBlk x4 (colOf x2 (n + 1))) (x3 (ent n)) (entBlk x5 n)
    (x3 (ent (n + 1))) (entBlk x5 (n + 1)) a)

/-- The accumulator `a` after the odd entry `n`. -/
def oddStep (x2 : Vec F S717 .i32) (x3 : Vec F S717 .f32) (x4 : Vec F S512x14336 .bf16) (x5 : Vec F S717x128x128 .fp8e4m3)
    (n : ℕ) (a : Vec F S512x128 .f32) : Vec F S512x128 .f32 :=
  k0_pay1 a (colBlk x4 (colOf x2 n)) (x3 (ent n)) (entBlk x5 n)

/-- The accumulator `a` after `p` pairs of entries, the first of them entry `b`. -/
def pairAcc (x2 : Vec F S717 .i32) (x3 : Vec F S717 .f32) (x4 : Vec F S512x14336 .bf16) (x5 : Vec F S717x128x128 .fp8e4m3)
    (a : Vec F S512x128 .f32) (b : ℕ) : ℕ → Vec F S512x128 .f32
  | 0 => a
  | p + 1 => pairStep x2 x3 x4 x5 (b + 2 * p) (pairAcc x2 x3 x4 x5 a b p)

/-- A row's accumulator after all its entries, from `b` to below `e`. -/
def rowAcc (x2 : Vec F S717 .i32) (x3 : Vec F S717 .f32) (x4 : Vec F S512x14336 .bf16) (x5 : Vec F S717x128x128 .fp8e4m3)
    (b e : ℕ) : Vec F S512x128 .f32 :=
  if (e - b) % 2 = 1 then oddStep x2 x3 x4 x5 (e - 1) (pairAcc x2 x3 x4 x5 k0_pay5 b ((e - b) / 2))
  else pairAcc x2 x3 x4 x5 k0_pay5 b ((e - b) / 2)

/-- Row `r`'s block of the output. -/
def outBlk (x1 : Vec F S33 .i32) (x2 : Vec F S717 .i32) (x3 : Vec F S717 .f32) (x4 : Vec F S512x14336 .bf16)
    (x5 : Vec F S717x128x128 .fp8e4m3) (r : ℕ) : Vec F S512x128 .bf16 :=
  k0_pay2 (rowAcc x2 x3 x4 x5 (ptrOf x1 r) (ptrOf x1 (r + 1)))

/-- The block of the output of one block of x: column block `r` is row `r`'s. -/
def outWin (x1 : Vec F S33 .i32) (x2 : Vec F S717 .i32) (x3 : Vec F S717 .f32) (x4 : Vec F S512x14336 .bf16)
    (x5 : Vec F S717x128x128 .fp8e4m3) : Vec F S512x4096 .bf16 :=
  fun i => outBlk x1 x2 x3 x4 x5 ((i 1).val / 128) (ix2 (i 0) ⟨(i 1).val % 128, Nat.mod_lt _ (by decide)⟩)

/-! ## A load at the kernel's offsets -/

/-- A load of one word of a table of the entries. -/
theorem ld_word {e : EltTy} (x : Vec F S717 e) {off : Fin 1 → ℕ} {n : ℕ} (h : off = ![n]) (hn : n < 717) (inb) (j) :
    View.ld (Val := Elt F) x (Rect.unit (s := S717) off S1.size inb) j = x (ent n) := by
  subst h
  refine congrArg x (funext fun a => Fin.ext ?_)
  have h0 : (j 0).val < 1 := (j 0).isLt
  fin_cases a
  show n + 1 * (j 0).val = n % 717
  rw [Nat.mod_eq_of_lt hn]; omega

/-- A load of one row pointer. -/
theorem ld_ptr (x : Vec F S33 .i32) {off : Fin 1 → ℕ} {n : ℕ} (h : off = ![n]) (hn : n < 33) (inb) (j) :
    View.ld (Val := Elt F) x (Rect.unit (s := S33) off S1.size inb) j = x (ix1 ⟨n % 33, Nat.mod_lt _ (by decide)⟩) := by
  subst h
  refine congrArg x (funext fun a => Fin.ext ?_)
  have h0 : (j 0).val < 1 := (j 0).isLt
  fin_cases a
  show n + 1 * (j 0).val = n % 33
  rw [Nat.mod_eq_of_lt hn]; omega

/-- A load of one entry's block. -/
theorem ld_blk (x : Vec F S717x128x128 .fp8e4m3) {off : Fin 3 → ℕ} {n : ℕ} (h : off = ![n, 0, 0]) (hn : n < 717) (inb) :
    View.ld (Val := Elt F) x (Rect.unit (s := S717x128x128) off S1x128x128.size inb) = entBlk x n := by
  subst h
  funext j
  refine congrArg x (funext fun a => Fin.ext ?_)
  have h0 : (j 0).val < 1 := (j 0).isLt
  fin_cases a
  · show n + 1 * (j 0).val = n % 717
    rw [Nat.mod_eq_of_lt hn]; omega
  · show 0 + 1 * (j 1).val = (j 1).val; omega
  · show 0 + 1 * (j 2).val = (j 2).val; omega

/-- A load of one column block of x. -/
theorem ld_col (x : Vec F S512x14336 .bf16) {off : Fin 2 → ℕ} {n : ℕ} (h : off = ![0, 128 * n]) (hn : n < 112) (inb) :
    View.ld (Val := Elt F) x (Rect.unit (s := S512x14336) off S512x128.size inb) = colBlk x n := by
  subst h
  funext j
  refine congrArg x (funext fun a => Fin.ext ?_)
  have h1 : (j 1).val < 128 := (j 1).isLt
  fin_cases a
  · show 0 + 1 * (j 0).val = (j 0).val; omega
  · show 128 * n + 1 * (j 1).val = (128 * n + (j 1).val) % 14336
    rw [Nat.mod_eq_of_lt (by omega)]; omega

/-- Every word of the column table, read as a number, names one of the 112 column blocks. -/
abbrev ColsOK (x2 : Vec F S717 .i32) : Prop := ∀ e, BitVec.toNat (w := 32) (x2 e) < 112

/-- The column block that the first entry of a pair names. -/
theorem ld_col4 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off4 w) S512x128.size inb) = colBlk x4 (colOf x2 n) := by
  subst hw; exact ld_col x4 (off4 (hcol _)) (hcol _) inb

/-- The column block that the second entry of a pair names. -/
theorem ld_col6 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off6 w) S512x128.size inb) = colBlk x4 (colOf x2 n) := by
  subst hw; exact ld_col x4 (off6 (hcol _)) (hcol _) inb

/-- The column block that the entry left over names. -/
theorem ld_col20 {x2 : Vec F S717 .i32} (x4 : Vec F S512x14336 .bf16) {n : ℕ} (hcol : ColsOK (F := F) x2) {w : BitVec 32}
    (hw : w = x2 (ent n)) (inb) : View.ld (Val := Elt F) x4 (Rect.unit (s := S512x14336) (k0_off20 w) S512x128.size inb) = colBlk x4 (colOf x2 n) := by
  subst hw; exact ld_col x4 (off20 (hcol _)) (hcol _) inb

/-- Equal operands, equal step by a pair. -/
theorem pay3_congr {a a' b b' : Vec F S512x128 .bf16} {s s' t t' : Elt F .f32} {p p' q q' : Vec F S1x128x128 .fp8e4m3}
    {v v' : Vec F S512x128 .f32} (ha : a = a') (hb : b = b') (hs : s = s') (hp : p = p') (ht : t = t') (hq : q = q') (hv : v = v') :
    k0_pay3 a b s p t q v = k0_pay3 a' b' s' p' t' q' v' := by
  subst ha; subst hb; subst hs; subst ht; subst hp; subst hq; subst hv; rfl

/-- Equal operands, equal step by one entry. -/
theorem pay1_congr {a a' : Vec F S512x128 .bf16} {s s' : Elt F .f32} {p p' : Vec F S1x128x128 .fp8e4m3}
    {v v' : Vec F S512x128 .f32} (hv : v = v') (ha : a = a') (hs : s = s') (hp : p = p') :
    k0_pay1 v a s p = k0_pay1 v' a' s' p' := by
  subst ha; subst hs; subst hp; subst hv; rfl

/-- Every row's first and last-plus-one words read as numbers in order and inside the table of entries. -/
abbrev RowsOK (x1 : Vec F S33 .i32) : Prop :=
  ∀ r < 32, RowWords (x1 (ix1 ⟨r % 33, Nat.mod_lt _ (by decide)⟩)) (x1 (ix1 ⟨(r + 1) % 33, Nat.mod_lt _ (by decide)⟩))

/-- The accumulator read after a store of all of it. -/
theorem read_acc {κ : Kind} {sp : Space} (v : View sig κ sp S512x128 .f32) (f : v.ty.Contents (Elt F)) (inb)
    (w : Vec F S512x128 .f32) (L : List (View.Piece (Elt F) S512x128 .f32)) :
    v.read (Elt F) (v.writes (Elt F) f (⟨Rect.unit ![0, 0] S512x128.size inb, w⟩ :: L)) = w := by
  funext y
  exact View.read_writes_cons_unit_of_mem v f inb w L y y rfl (fun a => by fin_cases a <;> exact (Nat.zero_add _).symm)

end Cert.Proof.Kernel
-- ==== Proof.Kernel.Trip.lean ====
/- The loop over the pairs of entries of one row of blocks: one trip adds one pair to the accumulator, and the loop adds them all. -/
module

public import proofs.«01_k».proof.Proof.Kernel.Readers
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A core's whole buffer behind a memref, at given contents. -/
abbrev held (c : Dev nD) {sp : Space} {s : Shape} {e : EltTy} (m : Memref sig .tc sp s e)
    (f : BufTy.Contents (Elt F) m.view.ty) : sProp 𝕄 :=
  m.view.loc (c : Thread nD τ) ↦[m.view.set]{fullShare} f

/-- The same for a prefetched table, at the half share the body gets: it may load the words and store none. -/
abbrev tbl (c : Dev nD) {sp : Space} {s : Shape} {e : EltTy} (m : Memref sig .tc sp s e)
    (f : BufTy.Contents (Elt F) m.view.ty) : sProp 𝕄 :=
  m.view.loc (c : Thread nD τ) ↦[m.view.set]{fullShare.right} f

/-- One trip: it reads the two entries' words, scales and blocks and the columns of x they name, and adds their products to the
    accumulator. The reads are in range because the table words are. -/
theorem trip2 (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (c0_i32 c1_i32 : BitVec 32) (k0_t1 : Fin k0_t1_loop.trips) (v2 v5 : BitVec 32) (hw1 : k0_chk1 v2 v5) (hw : RowWords v2 v5)
    (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty)
    (hcol : ColsOK (F := F) (arg2.view.read (Elt F) f2)) (k : Fin (k0_t2_loop v2 v5).trips) (acc : BitVec 32) :
    iprop(tbl (F := F) c arg2 f2
      ∗ held (F := F) c arg3 f3
      ∗ held (F := F) c arg4 f4
      ∗ held (F := F) c arg5 f5
      ∗ held (F := F) c arg7 f7)
    ⊢ wp Idealize.ShloMosaic.frame (wpE (defs₀ (F := F)) Variants.none (c : Thread nD τ) none) Set.univ
        (k0_t2_body (F := F) i arg1 harg1 arg2 harg2 arg3 harg3 arg4 harg4 arg5 harg5 arg6 harg6 arg7 harg7 c0_i32 c1_i32 k0_t1 v2 v5 hw1 k acc)
        (fun _ => iprop(tbl (F := F) c arg2 f2
      ∗ held (F := F) c arg3 f3
      ∗ held (F := F) c arg4 f4
      ∗ held (F := F) c arg5 f5
      ∗ (∃ f, held (F := F) c arg7 f
          ∗ ⌜arg7.view.read (Elt F) f = pairStep (arg2.view.read (Elt F) f2) (arg3.view.read (Elt F) f3) (arg4.view.read (Elt F) f4)
              (arg5.view.read (Elt F) f5) (v2.toNat + 2 * k.val) (arg7.view.read (Elt F) f7)⌝))) := by
  have hk : k.val < (v5.toNat - v2.toNat) / 2 := lt_of_lt_of_eq k.isLt hw.trips
  have h1 := hw.le
  have h2 := hw.top
  unfold k0_t2_body
  simp only [k0_part1_eq_skeleton]; unfold k0_part1_skel
  iintro ⟨H2, H3, H4, H5, H7⟩
  sl_exec (disch := (first | exact chk2 (hcol _) | exact chk3 (hcol _)))
  sl_step
  iframe H2 H3 H4 H5
  iexists _
  iframe H7
  ipureintro
  refine (read_acc arg7.view f7 _ _ []).trans ?_
  exact congrArg k0_pay6 (pay3_congr (ld_col4 _ hcol (ld_word _ (hw.off3 k) (by omega) _ _) _)
    (ld_col6 _ hcol (ld_word _ (hw.off5 k) (by omega) _ _) _) (ld_word _ (hw.off7 k) (by omega) _ _)
    (ld_blk _ (hw.off8 k) (by omega) _) (ld_word _ (hw.off9 k) (by omega) _ _) (ld_blk _ (hw.off10 k) (by omega) _)
    (View.readAt_full _ _ _))

set_option warn.classDefReducibility false in
/-- The loop over a row's pairs of entries: before trip `k` the accumulator has taken the first `k` pairs. -/
@[sl_loop] def loopInv2 (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (c0_i32 c1_i32 : BitVec 32) (k0_t1 : Fin k0_t1_loop.trips) (v2 v5 : BitVec 32) (hw1 : k0_chk1 v2 v5)
    (f2 : BufTy.Contents (Elt F) arg2.view.ty) (f3 : BufTy.Contents (Elt F) arg3.view.ty) (f4 : BufTy.Contents (Elt F) arg4.view.ty) (f5 : BufTy.Contents (Elt F) arg5.view.ty) (f7 : BufTy.Contents (Elt F) arg7.view.ty) (init : BitVec 32) :
    LoopInvTy_k0_t2 (F := F) Unit ℕ (UR sig nD τ) ℕ Variants.none c none Set.univ i arg1 harg1 arg2 harg2 arg3 harg3 arg4 harg4 arg5 harg5
      arg6 harg6 arg7 harg7 c0_i32 c1_i32 k0_t1 v2 v5 hw1 init where
  inv k _ := iprop(tbl (F := F) c arg2 f2 ∗ held (F := F) c arg3 f3 ∗ held (F := F) c arg4 f4 ∗ held (F := F) c arg5 f5
    ∗ (∃ f, held (F := F) c arg7 f
      ∗ ⌜arg7.view.read (Elt F) f = pairAcc (arg2.view.read (Elt F) f2) (arg3.view.read (Elt F) f3) (arg4.view.read (Elt F) f4)
          (arg5.view.read (Elt F) f5) (arg7.view.read (Elt F) f7) v2.toNat k⌝)
    ∗ ⌜RowWords v2 v5⌝ ∗ ⌜ColsOK (F := F) (arg2.view.read (Elt F) f2)⌝)
  step k acc := by
    iintro ⟨H2, H3, H4, H5, ⟨%f, H7, %hf⟩, %hw, %hcol⟩
    have post : ∀ _a : BitVec 32, iprop(tbl (F := F) c arg2 f2 ∗ held (F := F) c arg3 f3 ∗ held (F := F) c arg4 f4 ∗ held (F := F) c arg5 f5
          ∗ (∃ f', held (F := F) c arg7 f'
            ∗ ⌜arg7.view.read (Elt F) f' = pairStep (arg2.view.read (Elt F) f2) (arg3.view.read (Elt F) f3) (arg4.view.read (Elt F) f4)
              (arg5.view.read (Elt F) f5) (v2.toNat + 2 * k.val) (arg7.view.read (Elt F) f)⌝))
        ⊢ iprop(tbl (F := F) c arg2 f2 ∗ held (F := F) c arg3 f3 ∗ held (F := F) c arg4 f4 ∗ held (F := F) c arg5 f5
          ∗ (∃ f', held (F := F) c arg7 f'
            ∗ ⌜arg7.view.read (Elt F) f' = pairAcc (arg2.view.read (Elt F) f2) (arg3.view.read (Elt F) f3) (arg4.view.read (Elt F) f4)
              (arg5.view.read (Elt F) f5) (arg7.view.read (Elt F) f7) v2.toNat (k.val + 1)⌝)
          ∗ ⌜RowWords v2 v5⌝ ∗ ⌜ColsOK (F := F) (arg2.view.read (Elt F) f2)⌝) := fun _ => by
      iintro ⟨H2, H3, H4, H5, ⟨%g, H7, %hg⟩⟩
      iframe H2 H3 H4 H5
      isplitl
      · iexists g
        iframe H7
        ipureintro
        rw [hg, hf]; rfl
      · ipureintro
        exact ⟨hw, hcol⟩
    iapply (trip2 c i arg1 harg1 arg2 harg2 arg3 harg3 arg4 harg4 arg5 harg5 arg6 harg6 arg7 harg7 c0_i32 c1_i32 k0_t1 v2 v5 hw1 hw f2 f3 f4 f5 f hcol k acc).trans ((wp _ _ _ _).mono post)
    iframe

end Cert.Proof.Kernel
-- ==== Proof.Kernel.Row.lean ====
/- One row of blocks: the accumulator is cleared, takes the row's pairs of entries and the entry left over, and is stored as the row's
   column block of the output. -/
module

public import proofs.«01_k».proof.Proof.Kernel.Trip
public import Idealize.ShloMosaic.Lib.LoopRemainder

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The offsets of a load of a whole matrix. -/
theorem zero2 : (![0, 0] : Fin 2 → ℕ) = fun _ => 0 := by decide

/-- Equal bounds, equal accumulators. -/
theorem pairAcc_congr {x2 : Vec F S717 .i32} {x3 : Vec F S717 .f32} {x4 : Vec F S512x14336 .bf16} {x5 : Vec F S717x128x128 .fp8e4m3}
    {a a' : Vec F S512x128 .f32} {b b' p p' : ℕ} (ha : a = a') (hb : b = b') (hp : p = p') :
    pairAcc x2 x3 x4 x5 a b p = pairAcc x2 x3 x4 x5 a' b' p' := by
  subst ha; subst hb; subst hp; rfl

/-- The output's block after a row's store: column block `k` is what was stored, the others are as before. -/
theorem read_out (v : View sig .tc .vmem S512x4096 .bf16) (f : v.ty.Contents (Elt F)) (k : Fin k0_t1_loop.trips) (inb)
    (w : Vec F S512x128 .bf16) (y : S512x4096.Idx) :
    v.read (Elt F) (v.writes (Elt F) f [⟨Rect.unit (k0_off23 k) S512x128.size inb, w⟩]) y
      = if (y 1).val / 128 = k.val then w (ix2 (y 0) ⟨(y 1).val % 128, Nat.mod_lt _ (by decide)⟩) else v.read (Elt F) f y := by
  split
  · rename_i h
    refine View.read_writes_cons_unit_of_mem v f inb w [] y (ix2 (y 0) ⟨(y 1).val % 128, Nat.mod_lt _ (by decide)⟩) (k0_off23_eq k) (fun a => ?_)
    fin_cases a
    · exact (Nat.zero_add _).symm
    · show (y 1).val = 128 * k.val + (y 1).val % 128
      omega
  · rename_i h
    refine View.read_writes_cons_unit_of_not_mem v f inb w [] y (k0_off23_eq k) 1 ?_
    show (y 1).val < 128 * k.val ∨ 128 * k.val + 128 ≤ (y 1).val
    omega

/-- One row of blocks: from any accumulator it leaves the row's block in the output, and every other column block as it was. -/
theorem row (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole) (k : Fin k0_t1_loop.trips)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2))
    (hrow : RowsOK (F := F) (arg1.view.read (Elt F) f1)) :
    iprop(tbl (F := F) c arg1 f1 ∗ tbl (F := F) c arg2 f2 ∗ held (F := F) c arg3 f3 ∗ held (F := F) c arg4 f4 ∗ held (F := F) c arg5 f5
      ∗ held (F := F) c arg6 f6 ∗ held (F := F) c arg7 f7)
    ⊢ wp Idealize.ShloMosaic.frame (wpE (defs₀ (F := F)) Variants.none (c : Thread nD τ) none) Set.univ
        (k0_t1_body (F := F) i arg1 harg1 arg2 harg2 arg3 harg3 arg4 harg4 arg5 harg5 arg6 harg6 arg7 harg7 k ())
        (fun _ => iprop(tbl (F := F) c arg1 f1 ∗ tbl (F := F) c arg2 f2 ∗ held (F := F) c arg3 f3 ∗ held (F := F) c arg4 f4 ∗ held (F := F) c arg5 f5
      ∗ (∃ g, held (F := F) c arg6 g ∗ ⌜∀ y, arg6.view.read (Elt F) g y = if (y 1).val / 128 = k.val then
          outBlk (arg1.view.read (Elt F) f1) (arg2.view.read (Elt F) f2) (arg3.view.read (Elt F) f3) (arg4.view.read (Elt F) f4)
            (arg5.view.read (Elt F) f5) k.val (ix2 (y 0) ⟨(y 1).val % 128, Nat.mod_lt _ (by decide)⟩)
          else arg6.view.read (Elt F) f6 y⌝)
      ∗ ∃ f, held (F := F) c arg7 f)) := by
  have hS1 : 0 < S1.numel := by decide
  have hw : RowWords (View.readAt (Elt F) arg1.view (Rect.unit (s := S33) (k0_off1 k) S1.size (k0_off1_inb k)).toLoadRect f1 (Shape.Idx.first hS1))
      (View.readAt (Elt F) arg1.view (Rect.unit (s := S33) (k0_off2 k) S1.size (k0_off2_inb k)).toLoadRect f1 (Shape.Idx.first hS1)) := by
    have hk : k.val < 32 := k.isLt
    have e1 := ld_ptr (arg1.view.read (Elt F) f1) (k0_off1_eq k) (by omega) (k0_off1_inb k) (Shape.Idx.first hS1)
    have e2 := ld_ptr (arg1.view.read (Elt F) f1) (k0_off2_eq k) (by omega) (k0_off2_inb k) (Shape.Idx.first hS1)
    have h := hrow k.val hk
    rw [← e1, ← e2] at h
    exact h
  have hk1 := hw.chk1
  have hk : k.val < 32 := k.isLt
  have e1 : BitVec.toNat (w := 32) (View.readAt (Elt F) arg1.view (Rect.unit (s := S33) (k0_off1 k) S1.size (k0_off1_inb k)).toLoadRect f1 (Shape.Idx.first hS1))
      = ptrOf (arg1.view.read (Elt F) f1) k.val := congrArg BitVec.toNat (ld_ptr _ (k0_off1_eq k) (by omega) (k0_off1_inb k) _)
  have e2 : BitVec.toNat (w := 32) (View.readAt (Elt F) arg1.view (Rect.unit (s := S33) (k0_off2 k) S1.size (k0_off2_inb k)).toLoadRect f1 (Shape.Idx.first hS1))
      = ptrOf (arg1.view.read (Elt F) f1) (k.val + 1) := congrArg BitVec.toNat (ld_ptr _ (k0_off2_eq k) (by omega) (k0_off2_inb k) _)
  have htr := hw.trips
  have hcond := hw.cond
  have hle := hw.le
  have htop := hw.top
  by_cases hodd : k0_cond1 (View.readAt (Elt F) arg1.view (Rect.unit (s := S33) (k0_off1 k) S1.size (k0_off1_inb k)).toLoadRect f1 (Shape.Idx.first hS1))
      (View.readAt (Elt F) arg1.view (Rect.unit (s := S33) (k0_off2 k) S1.size (k0_off2_inb k)).toLoadRect f1 (Shape.Idx.first hS1)) = 1#1
  · unfold k0_t1_body
    simp only [k0_part3_eq_skeleton, k0_part3_skel, bind_assoc, pure_bind]
    iintro ⟨H1, H2, H3, H4, H5, H6, H7⟩
    sl_exec (disch := (first | exact hodd | exact chk6 (hcol _)))
    sl_step
    have hacc : arg7.view.read (Elt F) fL0 = pairAcc (arg2.view.read (Elt F) f2) (arg3.view.read (Elt F) f3) (arg4.view.read (Elt F) f4)
        (arg5.view.read (Elt F) f5) k0_pay5 (ptrOf (arg1.view.read (Elt F) f1) k.val)
        ((ptrOf (arg1.view.read (Elt F) f1) (k.val + 1) - ptrOf (arg1.view.read (Elt F) f1) k.val) / 2) :=
      hL5.trans (pairAcc_congr (read_acc _ _ _ _ _) e1 (htr.trans (by rw [e1, e2])))
    clear hL5
    iframe H1 H2 H3 H4 H5
    isplitl [H6]
    · iexists _
      iframe H6
      ipureintro
      intro y
      refine (read_out arg6.view f6 k _ _ y).trans ?_
      split
      · unfold outBlk
        refine congrFun (congrArg k0_pay2 ?_) _
        unfold rowAcc
        rw [if_pos (by rw [← e1, ← e2]; exact hcond.mp hodd)]
        have h0 : 0 < BitVec.toNat (w := 32) (View.readAt (Elt F) arg1.view (Rect.unit (s := S33) (k0_off2 k) S1.size (k0_off2_inb k)).toLoadRect f1 (Shape.Idx.first hS1)) := by
          have := hcond.mp hodd; omega
        rw [← e2]
        refine (View.readCov_unit_zero (S := S512x128) (off := ![0, 0]) arg7.view zero2 _ _).trans ?_
        rw [e2, ← hacc]
        rw [← e2]
        exact pay1_congr (View.readAt_full _ _ _)
          (ld_col20 _ hcol (ld_word _ (off19 h0) (by omega) _ _) _) (ld_word _ (off21 h0) (by omega) _ _)
          (ld_blk _ (off22 h0) (by omega) _)
      · rfl
    · iexists _
      iframe H7
  · unfold k0_t1_body
    simp only [k0_part3_eq_skeleton, k0_part3_skel, bind_assoc, pure_bind]
    iintro ⟨H1, H2, H3, H4, H5, H6, H7⟩
    sl_exec (disch := (first | exact hodd))
    sl_step
    have hacc : arg7.view.read (Elt F) fL0 = pairAcc (arg2.view.read (Elt F) f2) (arg3.view.read (Elt F) f3) (arg4.view.read (Elt F) f4)
        (arg5.view.read (Elt F) f5) k0_pay5 (ptrOf (arg1.view.read (Elt F) f1) k.val)
        ((ptrOf (arg1.view.read (Elt F) f1) (k.val + 1) - ptrOf (arg1.view.read (Elt F) f1) k.val) / 2) :=
      hL5.trans (pairAcc_congr (read_acc _ _ _ _ _) e1 (htr.trans (by rw [e1, e2])))
    clear hL5
    iframe H1 H2 H3 H4 H5
    isplitl [H6]
    · iexists _
      iframe H6
      ipureintro
      intro y
      refine (read_out arg6.view f6 k _ _ y).trans ?_
      split
      · unfold outBlk
        refine congrFun (congrArg k0_pay2 ?_) _
        unfold rowAcc
        rw [if_neg (fun h => hodd (hcond.mpr (by rw [e1, e2]; exact h)))]
        exact (View.readAt_full _ _ _).trans hacc
      · rfl
    · iexists _
      iframe H7

end Cert.Proof.Kernel
-- ==== Proof.Kernel.Body.lean ====
module

public import proofs.«01_k».proof.Proof.Kernel.Row

/-! One grid point of the kernel: the loop over the 32 block rows fills the output window, row by row. -/

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before row `k`: the inputs as they were, the first `k` column blocks of the output window at their final contents,
    the accumulator at anything. -/
def rowsInv (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (k : ℕ) : sProp 𝕄 :=
  iprop(tbl (F := F) c arg1 f1 ∗ tbl (F := F) c arg2 f2 ∗ held (F := F) c arg3 f3 ∗ held (F := F) c arg4 f4 ∗ held (F := F) c arg5 f5
    ∗ (∃ g, held (F := F) c arg6 g ∗ ⌜∀ y, (y 1).val / 128 < k → arg6.view.read (Elt F) g y = outWin (arg1.view.read (Elt F) f1) (arg2.view.read (Elt F) f2) (arg3.view.read (Elt F) f3) (arg4.view.read (Elt F) f4) (arg5.view.read (Elt F) f5) y⌝)
    ∗ ∃ f, held (F := F) c arg7 f)

/-- One row keeps the invariant. -/
theorem rows_step (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2)) (hrow : RowsOK (F := F) (arg1.view.read (Elt F) f1))
    (k : Fin k0_t1_loop.trips) (acc : Unit) :
    rowsInv (F := F) c i arg1 harg1 arg2 harg2 arg3 harg3 arg4 harg4 arg5 harg5 arg6 harg6 arg7 harg7 f1 f2 f3 f4 f5 f6 f7 k.val
    ⊢ wp Idealize.ShloMosaic.frame (wpE (defs₀ (F := F)) Variants.none (c : Thread nD τ) none) Set.univ
        (k0_t1_body (F := F) i arg1 harg1 arg2 harg2 arg3 harg3 arg4 harg4 arg5 harg5 arg6 harg6 arg7 harg7 k acc)
        (fun _ => rowsInv (F := F) c i arg1 harg1 arg2 harg2 arg3 harg3 arg4 harg4 arg5 harg5 arg6 harg6 arg7 harg7 f1 f2 f3 f4 f5 f6 f7 (k.val + 1)) := by
  unfold rowsInv
  iintro ⟨H1, H2, H3, H4, H5, ⟨%g, H6, %hg⟩, ⟨%f, H7⟩⟩
  have post : ∀ _a : Unit, iprop(tbl (F := F) c arg1 f1 ∗ tbl (F := F) c arg2 f2 ∗ held (F := F) c arg3 f3 ∗ held (F := F) c arg4 f4 ∗ held (F := F) c arg5 f5
      ∗ (∃ g', held (F := F) c arg6 g' ∗ ⌜∀ y, arg6.view.read (Elt F) g' y = if (y 1).val / 128 = k.val then
          outBlk (arg1.view.read (Elt F) f1) (arg2.view.read (Elt F) f2) (arg3.view.read (Elt F) f3) (arg4.view.read (Elt F) f4) (arg5.view.read (Elt F) f5) k.val (ix2 (y 0) ⟨(y 1).val % 128, Nat.mod_lt _ (by decide)⟩)
          else arg6.view.read (Elt F) g y⌝)
      ∗ ∃ f, held (F := F) c arg7 f)
      ⊢ iprop(tbl (F := F) c arg1 f1 ∗ tbl (F := F) c arg2 f2 ∗ held (F := F) c arg3 f3 ∗ held (F := F) c arg4 f4 ∗ held (F := F) c arg5 f5
    ∗ (∃ g, held (F := F) c arg6 g ∗ ⌜∀ y, (y 1).val / 128 < k.val + 1 → arg6.view.read (Elt F) g y = outWin (arg1.view.read (Elt F) f1) (arg2.view.read (Elt F) f2) (arg3.view.read (Elt F) f3) (arg4.view.read (Elt F) f4) (arg5.view.read (Elt F) f5) y⌝)
    ∗ ∃ f, held (F := F) c arg7 f) := fun _ => by
    iintro ⟨H1, H2, H3, H4, H5, ⟨%g', H6, %hg'⟩, H7⟩
    iframe H1 H2 H3 H4 H5 H7
    iexists g'
    iframe H6
    ipureintro
    intro y hy
    rw [hg' y]
    split
    · next h => unfold outWin; rw [h]
    · next h => exact hg y (by omega)
  iapply (row c i arg1 harg1 arg2 harg2 arg3 harg3 arg4 harg4 arg5 harg5 arg6 harg6 arg7 harg7 k f1 f2 f3 f4 f5 g f hcol hrow).trans ((wp _ _ _ _).mono post)
  iframe

/-- The kernel's function at one grid point: from the inputs' contents it leaves the output window at `outWin` of them. -/
theorem body (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty)
    (hcol : ColsOK (F := F) (arg2.view.read (Elt F) f2)) (hrow : RowsOK (F := F) (arg1.view.read (Elt F) f1)) :
    iprop(tbl (F := F) c arg1 f1 ∗ tbl (F := F) c arg2 f2 ∗ held (F := F) c arg3 f3 ∗ held (F := F) c arg4 f4 ∗ held (F := F) c arg5 f5 ∗ held (F := F) c arg6 f6 ∗ held (F := F) c arg7 f7)
    ⊢ wp Idealize.ShloMosaic.frame (wpE (defs₀ (F := F)) Variants.none (c : Thread nD τ) none) Set.univ
        (cc0_bsr_linear (F := F) i arg1 harg1 arg2 harg2 arg3 harg3 arg4 harg4 arg5 harg5 arg6 harg6 arg7 harg7)
        (fun _ => iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f)) := by
  rw [cc0_bsr_linear_eq_skeleton]; unfold cc0_bsr_linear_skel
  have start : iprop(tbl (F := F) c arg1 f1 ∗ tbl (F := F) c arg2 f2 ∗ held (F := F) c arg3 f3 ∗ held (F := F) c arg4 f4 ∗ held (F := F) c arg5 f5 ∗ held (F := F) c arg6 f6 ∗ held (F := F) c arg7 f7)
      ⊢ rowsInv (F := F) c i arg1 harg1 arg2 harg2 arg3 harg3 arg4 harg4 arg5 harg5 arg6 harg6 arg7 harg7 f1 f2 f3 f4 f5 f6 f7 0 := by
    unfold rowsInv
    iintro ⟨H1, H2, H3, H4, H5, H6, H7⟩
    iframe H1 H2 H3 H4 H5
    isplitl [H6]
    · iexists f6
      iframe H6
      ipureintro
      exact fun y h => absurd h (Nat.not_lt_zero _)
    · iexists f7
      iframe H7
  have fin : rowsInv (F := F) c i arg1 harg1 arg2 harg2 arg3 harg3 arg4 harg4 arg5 harg5 arg6 harg6 arg7 harg7 f1 f2 f3 f4 f5 f6 f7 k0_t1_loop.trips
      ⊢ iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f) := by
    unfold rowsInv
    iintro ⟨H1, H2, H3, H4, H5, ⟨%g, H6, %hg⟩, H7⟩
    iframe H1 H2 H3 H4 H5 H7
    iexists g
    iframe H6
    ipureintro
    funext y
    refine hg y ?_
    have hy : (y 1).val < 4096 := (y 1).isLt
    show (y 1).val / 128 < 32
    omega
  have h := Scf.wp_for_bind Idealize.ShloMosaic.frame (wpE (defs₀ (F := F)) Variants.none (c : Thread nD τ) none) Set.univ
    _ _ _ k0_t1_ok () (k0_t1_body (F := F) i arg1 harg1 arg2 harg2 arg3 harg3 arg4 harg4 arg5 harg5 arg6 harg6 arg7 harg7)
    (fun k _ => rowsInv (F := F) c i arg1 harg1 arg2 harg2 arg3 harg3 arg4 harg4 arg5 harg5 arg6 harg6 arg7 harg7 f1 f2 f3 f4 f5 f6 f7 k)
    (fun k acc => rows_step c i arg1 harg1 arg2 harg2 arg3 harg3 arg4 harg4 arg5 harg5 arg6 harg6 arg7 harg7 f1 f2 f3 f4 f5 f6 f7 hcol hrow k acc)
    (kk := fun _ => (pure ⟨⟩ : Prog _ PUnit))
    (Q := fun _ => iprop(tbl (F := F) c arg1 f1 ∗ tbl (F := F) c arg2 f2 ∗ held (F := F) c arg3 f3 ∗ held (F := F) c arg4 f4 ∗ held (F := F) c arg5 f5
          ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
          ∗ ∃ f, held (F := F) c arg7 f))
  refine start.trans ?_
  iintro HI
  iapply h $$ HI
  iintro %acc HI
  sl_step
  iapply fin $$ HI

end Cert.Proof.Kernel
-- ==== Proof.Kernel.Frame.lean ====
module

public import proofs.«01_k».proof.Proof.Kernel.Body
public import proofs.«01_k».proof.Proof.Words
public import proofs.«01_k».proof.Proof.Gen.Kernel.Launch
public import Idealize.ShloMosaic.Lib.Pipeline.Frame
public import Idealize.ShloMosaic.Lib.Pipeline.FrameBody
public import Idealize.ShloMosaic.Lib.Pipeline.FrameSuffix

/-! The run of the whole program: the host reshape before the kernel, the twelve grid points, the host reshape after. -/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- A core's buffers when the region is entered, as a valuation. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The host reshapes allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first host line, the region, and its last host line. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The last host line touches no prefetched table, -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  simp only [hostOps1, List.mem_cons, List.mem_nil_iff, or_false] at hop
  rcases hop with rfl
  intro b hb
  rw [StableHlo.reshape_bufs] at hb
  unfold Pipeline.tailRefs
  rw [Finset.mem_map]
  simp only [Finset.mem_insert, Finset.mem_singleton] at hb
  rcases hb with rfl | rfl
  · exact ⟨main_v1, by decide, rfl⟩
  · exact ⟨main_v2, by decide, rfl⟩
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.reshape_writes, Finset.mem_singleton]
    exact StableHlo.devRef_ne_of_ne (by decide)))
/-- No host line before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.reshape_writes, Finset.mem_singleton]
    exact StableHlo.devRef_ne_of_ne (by decide)))

/-- No host line after the region writes `main_arg0`. -/
theorem W_main_arg0 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
/-- No host line after the region writes `main_arg1`. -/
theorem W_main_arg1 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
/-- No host line after the region writes `main_arg2`. -/
theorem W_main_arg2 (a : (p : Fin 1) → (pcfgs (F := F) p).Adm)
    (dats : (p : Fin 1) → (c : Dev nD) → Dat τ (Elt F) Unit ℕ (UR sig nD τ) ℕ (Pipeline.pin (pcfgs (F := F)) a p) c) (c : Dev nD) :
    Pipeline.afterTail (pcfgs (F := F)) a dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-! ## The proof data -/

/-- The contents the prefetched tables are read at: what the buffers hold when the region is entered. -/
def adm (p : Fin 1) : (pcfgs (F := F) p).Adm := ⟨fun k => V m 0 (pre0.ref k), trivial⟩

/-- Window `w`'s block at point `t`, read off its array as the region finds it. -/
def iblk (c : Dev nD) (w : Fin (Pipeline.pin (pcfgs (F := F)) (adm m) 0).W) (t : Fin (Pipeline.pin (pcfgs (F := F)) (adm m) 0).N) :
    (((Pipeline.pin (pcfgs (F := F)) (adm m) 0).win w).xblock ((Pipeline.pin (pcfgs (F := F)) (adm m) 0).grid.coords t)).Idx → Elt F ((Pipeline.pin (pcfgs (F := F)) (adm m) 0).win w).elt :=
  (((Pipeline.pin (pcfgs (F := F)) (adm m) 0).win w).blk t).view.read (Elt F) (V m c (Pipeline.arrRef spec0 w))

/-- What the kernel's function leaves in its output window at point `t`. -/
def oblk (c : Dev nD) (t : Fin (Pipeline.pin (pcfgs (F := F)) (adm m) 0).N) : Vec F S512x4096 .bf16 :=
  outWin ((Memref.whole main_arg1).view.read (Elt F) ((adm (F := F) m 0).1 0)) ((Memref.whole main_arg2).view.read (Elt F) ((adm (F := F) m 0).1 1)) (iblk m c 0 t) (iblk m c 1 t) (iblk m c 2 t)

/-- The proof data: the arrays as the region finds them, every input's buffer left at its block, the output's at `oblk`. -/
def dats (_ : Fin 1) (c : Dev nD) : Dat τ (Elt F) Unit ℕ (UR sig nD τ) ℕ (Pipeline.pin (pcfgs (F := F)) (adm m) 0) c where
  A w := V m c (Pipeline.arrRef spec0 w)
  after w t := match w with
    | ⟨0, _⟩ => iblk m c 0 t
    | ⟨1, _⟩ => iblk m c 1 t
    | ⟨2, _⟩ => iblk m c 2 t
    | ⟨3, _⟩ => oblk m c t
  Φ _ := iprop(Pipeline.ΦA spec0 c ∗ Pipeline.ΦT pre0 (adm m 0).1 c)
  q _ := fullShare
  owed _ := 0

/-- Each array is the one the region finds. -/
theorem A_eq (c : Dev nD) (w : Fin (Pipeline.pin (pcfgs (F := F)) (adm m) 0).W) : (dats m 0 c).A w = V m c (Pipeline.arrRef spec0 w) := by
  dsimp only [dats]
/-- The buffers after a point: the three inputs at their blocks, the output at what the body computes. -/
theorem after0_0 (c : Dev nD) (t : Fin (Pipeline.pin (pcfgs (F := F)) (adm m) 0).N) : (dats m 0 c).after 0 t = iblk m c 0 t := by dsimp only [dats]; rfl
theorem after0_1 (c : Dev nD) (t : Fin (Pipeline.pin (pcfgs (F := F)) (adm m) 0).N) : (dats m 0 c).after 1 t = iblk m c 1 t := by dsimp only [dats]; rfl
theorem after0_2 (c : Dev nD) (t : Fin (Pipeline.pin (pcfgs (F := F)) (adm m) 0).N) : (dats m 0 c).after 2 t = iblk m c 2 t := by dsimp only [dats]; rfl
theorem after0_3 (c : Dev nD) (t : Fin (Pipeline.pin (pcfgs (F := F)) (adm m) 0).N) : (dats m 0 c).after 3 t = oblk m c t := by dsimp only [dats]; rfl

/-- The input buffers before a point hold the blocks of that point. -/
theorem before0_0 (c : Dev nD) (t : Fin (Pipeline.pin (pcfgs (F := F)) (adm m) 0).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (Pipeline.pin (pcfgs (F := F)) (adm m) 0).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (Pipeline.pin (pcfgs (F := F)) (adm m) 0).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- The two tables, one by one. -/
theorem tables_eq (c : Dev nD) : (Pipeline.ΦT pre0 (adm (F := F) m 0).1 c : sProp 𝕄)
    = iprop((tbl (F := F) c (Memref.whole main_arg1) ((adm (F := F) m 0).1 0)) ∗ tbl (F := F) c (Memref.whole main_arg2) ((adm (F := F) m 0).1 1)) := by
  unfold Pipeline.ΦT Pipeline.prefHeld
  rw [bigSep_univ_eq_bigSepL [(0 : Fin 2), (1 : Fin 2)] (by decide) (by decide)]
  simp only [tbl, Memref.view_whole, View.set_whole]; rfl

/-- The accumulator at some contents, behind its memref. -/
theorem scratch_eq (c : Dev nD) : (iprop(∃ f : Buf (Elt F) ((c : Thread nD τ).loc cc0_scratch0), ((c : Thread nD τ).loc cc0_scratch0) ↦{fullShare} f) : sProp 𝕄)
    = iprop(∃ f, held (F := F) c (Memref.whole cc0_scratch0) f) := by
  simp only [held, Memref.view_whole, View.set_whole]

/-! ## The body obligation -/

/-- The staging buffers the function is called with at point `t`. -/
abbrev st0_0 (t : Fin (Pipeline.pin (pcfgs (F := F)) (adm m) 0).N) : Memref sig .tc .smem S717 .f32 := spec0_0.stage ((Pipeline.pin (pcfgs (F := F)) (adm m) 0).slots t 0)
abbrev st0_1 (t : Fin (Pipeline.pin (pcfgs (F := F)) (adm m) 0).N) : Memref sig .tc .vmem S512x14336 .bf16 := spec0_1.stage ((Pipeline.pin (pcfgs (F := F)) (adm m) 0).slots t 1)
abbrev st0_2 (t : Fin (Pipeline.pin (pcfgs (F := F)) (adm m) 0).N) : Memref sig .tc .vmem S717x128x128 .fp8e4m3 := spec0_2.stage ((Pipeline.pin (pcfgs (F := F)) (adm m) 0).slots t 2)
abbrev st0_3 (t : Fin (Pipeline.pin (pcfgs (F := F)) (adm m) 0).N) : Memref sig .tc .vmem S512x4096 .bf16 := spec0_3.stage ((Pipeline.pin (pcfgs (F := F)) (adm m) 0).slots t 3)

/-- The kernel's function at point `t`, on what the pipeline calls it with. -/
abbrev bodyAt0 (t : Fin (Pipeline.pin (pcfgs (F := F)) (adm m) 0).N) : Prog (TpuEff nD τ sig (Elt F) Λ₀ .tc) PUnit :=
  cc0_bsr_linear (grid0.coords t) (Memref.whole main_arg1) (Memref.isWhole_whole _) (Memref.whole main_arg2) (Memref.isWhole_whole _)
    (st0_0 m t) (hstage0_0 (((Pipeline.pin (pcfgs (F := F)) (adm m) 0).slots t 0).cast nbuf0_0))
    (st0_1 m t) (hstage0_1 (((Pipeline.pin (pcfgs (F := F)) (adm m) 0).slots t 1).cast nbuf0_1))
    (st0_2 m t) (hstage0_2 (((Pipeline.pin (pcfgs (F := F)) (adm m) 0).slots t 2).cast nbuf0_2))
    (st0_3 m t) (hstage0_3 (((Pipeline.pin (pcfgs (F := F)) (adm m) 0).slots t 3).cast nbuf0_3))
    (Memref.whole cc0_scratch0) (Memref.isWhole_whole _)

/-- The function's triple over the windows as the pipeline hands them over. -/
theorem sound_kernel (c : Dev nD) (i : grid0.Coords) (arg1 : Memref sig .tc .smem S33 .i32) (harg1 : arg1.IsWhole) (arg2 : Memref sig .tc .smem S717 .i32) (harg2 : arg2.IsWhole) (arg3 : Memref sig .tc .smem S717 .f32) (harg3 : arg3.IsWhole) (arg4 : Memref sig .tc .vmem S512x14336 .bf16) (harg4 : arg4.IsWhole) (arg5 : Memref sig .tc .vmem S717x128x128 .fp8e4m3) (harg5 : arg5.IsWhole) (arg6 : Memref sig .tc .vmem S512x4096 .bf16) (harg6 : arg6.IsWhole) (arg7 : Memref sig .tc .vmem S512x128 .f32) (harg7 : arg7.IsWhole)
    (f1 : BufTy.Contents (Elt F) arg1.view.ty) (f2 : BufTy.Contents (Elt F) arg2.view.ty)
    (hcol : ColsOK (F := F) (arg2.view.read (Elt F) f2)) (hrow : RowsOK (F := F) (arg1.view.read (Elt F) f1))
    (x3 : Vec F S717 .f32) (x4 : Vec F S512x14336 .bf16) (x5 : Vec F S717x128x128 .fp8e4m3) :
    iprop(tbl (F := F) c arg1 f1 ∗ tbl (F := F) c arg2 f2 ∗ owns (c : Thread nD τ) arg3 fullShare x3 ∗ owns (c : Thread nD τ) arg4 fullShare x4
        ∗ owns (c : Thread nD τ) arg5 fullShare x5 ∗ (∃ d, owns (c : Thread nD τ) arg6 fullShare d) ∗ ∃ f7, held (F := F) c arg7 f7)
      ⊢ wp Idealize.ShloMosaic.frame (wpE (defs₀ (F := F)) Variants.none (c : Thread nD τ) none) Set.univ (cc0_bsr_linear (F := F) i arg1 harg1 arg2 harg2 arg3 harg3 arg4 harg4 arg5 harg5 arg6 harg6 arg7 harg7)
        (fun _ => iprop(tbl (F := F) c arg1 f1 ∗ tbl (F := F) c arg2 f2 ∗ owns (c : Thread nD τ) arg3 fullShare x3 ∗ owns (c : Thread nD τ) arg4 fullShare x4
          ∗ owns (c : Thread nD τ) arg5 fullShare x5
          ∗ owns (c : Thread nD τ) arg6 fullShare (outWin (arg1.view.read (Elt F) f1) (arg2.view.read (Elt F) f2) x3 x4 x5)
          ∗ ∃ f7, held (F := F) c arg7 f7)) := by
  unfold owns
  iintro ⟨H1, H2, ⟨%f3, %h3, H3⟩, ⟨%f4, %h4, H4⟩, ⟨%f5, %h5, H5⟩, ⟨%d6, %f6, -, H6⟩, ⟨%f7, H7⟩⟩
  subst h3 h4 h5
  have post : ∀ _a : PUnit, iprop(tbl (F := F) c arg1 f1 ∗ tbl (F := F) c arg2 f2 ∗ held (F := F) c arg3 f3 ∗ held (F := F) c arg4 f4 ∗ held (F := F) c arg5 f5
      ∗ (∃ g, held (F := F) c arg6 g ∗ ⌜arg6.view.read (Elt F) g = outWin (arg1.view.read (Elt F) f1) (arg2.view.read (Elt F) f2) (arg3.view.read (Elt F) f3) (arg4.view.read (Elt F) f4) (arg5.view.read (Elt F) f5)⌝)
      ∗ ∃ f, held (F := F) c arg7 f)
      ⊢ iprop(tbl (F := F) c arg1 f1 ∗ tbl (F := F) c arg2 f2 ∗ (∃ f, ⌜arg3.view.read (Elt F) f = arg3.view.read (Elt F) f3⌝ ∗ held (F := F) c arg3 f)
        ∗ (∃ f, ⌜arg4.view.read (Elt F) f = arg4.view.read (Elt F) f4⌝ ∗ held (F := F) c arg4 f)
        ∗ (∃ f, ⌜arg5.view.read (Elt F) f = arg5.view.read (Elt F) f5⌝ ∗ held (F := F) c arg5 f)
        ∗ (∃ f, ⌜arg6.view.read (Elt F) f = outWin (arg1.view.read (Elt F) f1) (arg2.view.read (Elt F) f2) (arg3.view.read (Elt F) f3) (arg4.view.read (Elt F) f4) (arg5.view.read (Elt F) f5)⌝ ∗ held (F := F) c arg6 f)
        ∗ ∃ f7, held (F := F) c arg7 f7) := fun _ => by
    iintro ⟨H1, H2, H3, H4, H5, ⟨%g, H6, %hg⟩, H7⟩
    iframe H1 H2 H7
    isplitl [H3]
    · iexists f3; iframe H3; ipureintro; rfl
    isplitl [H4]
    · iexists f4; iframe H4; ipureintro; rfl
    isplitl [H5]
    · iexists f5; iframe H5; ipureintro; rfl
    iexists g; iframe H6; ipureintro; exact hg
  iapply (body (F := F) c i arg1 harg1 arg2 harg2 arg3 harg3 arg4 harg4 arg5 harg5 arg6 harg6 arg7 harg7 f1 f2 f3 f4 f5 f6 f7 hcol hrow).trans ((wp _ _ _ _).mono post)
  iframe

/-- What the function is called with at point `t`, -/
def bodyPre (c : Dev nD) (t : Fin (Pipeline.pin (pcfgs (F := F)) (adm m) 0).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d)))

/-- and what it returns. -/
def bodyPost (c : Dev nD) (t : Fin (Pipeline.pin (pcfgs (F := F)) (adm m) 0).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t))

/-- The two tables as the kernel's function needs them: offsets within the entries, columns within the input. -/
structure TablesOK : Prop where
  cols : ColsOK (F := F) ((Memref.whole main_arg2).view.read (Elt F) ((adm (F := F) m 0).1 1))
  rows : RowsOK (F := F) ((Memref.whole main_arg1).view.read (Elt F) ((adm (F := F) m 0).1 0))

/-- The tables are good when the arguments' words are in range. -/
theorem tablesOK (h : InRange (m (((0 : Dev nD) : Thread nD τ).loc main_arg1)) (m (((0 : Dev nD) : Thread nD τ).loc main_arg2))) : TablesOK m := by
  have e1 : (Memref.whole main_arg1).view.read (Elt F) ((adm (F := F) m 0).1 0) = m (((0 : Dev nD) : Thread nD τ).loc main_arg1) := V_main_arg1 m 0
  have e2 : (Memref.whole main_arg2).view.read (Elt F) ((adm (F := F) m 0).1 1) = m (((0 : Dev nD) : Thread nD τ).loc main_arg2) := V_main_arg2 m 0
  refine ⟨?_, ?_⟩
  · rw [e2]; exact h.col
  · rw [e1]; exact fun r hr => ⟨h.le r hr, h.top r hr⟩

variable (hok : TablesOK m)
include hok

/-- The function at any point. -/
theorem sound_body (c : Dev nD) (t : Fin (Pipeline.pin (pcfgs (F := F)) (adm m) 0).N) :
    bodyPre m c t ⊢ wp Idealize.ShloMosaic.frame (wpE (defs₀ (F := F)) Variants.none c none) Set.univ (bodyAt0 m t) (fun _ => bodyPost m c t) := by
  unfold bodyPre bodyPost bodyAt0
  simp only [before0_0, before0_1, before0_2]
  rw [show (dats m 0 c).Φ t.castSucc = iprop(Pipeline.ΦA spec0 c ∗ Pipeline.ΦT pre0 (adm m 0).1 c) from rfl,
    show (dats m 0 c).Φ t.succ = iprop(Pipeline.ΦA spec0 c ∗ Pipeline.ΦT pre0 (adm m 0).1 c) from rfl,
    show (dats m 0 c).owesAt () t.succ = (dats m 0 c).owesAt () t.castSucc from rfl,
    after0_0, after0_1, after0_2, after0_3, tables_eq]
  unfold Pipeline.ΦA
  rw [scopedRest0_eq, scratch_eq]
  have h := sound_kernel (F := F) c (grid0.coords t) (Memref.whole main_arg1) (Memref.isWhole_whole _) (Memref.whole main_arg2) (Memref.isWhole_whole _)
    (st0_0 m t) (hstage0_0 (((Pipeline.pin (pcfgs (F := F)) (adm m) 0).slots t 0).cast nbuf0_0))
    (st0_1 m t) (hstage0_1 (((Pipeline.pin (pcfgs (F := F)) (adm m) 0).slots t 1).cast nbuf0_1))
    (st0_2 m t) (hstage0_2 (((Pipeline.pin (pcfgs (F := F)) (adm m) 0).slots t 2).cast nbuf0_2))
    (st0_3 m t) (hstage0_3 (((Pipeline.pin (pcfgs (F := F)) (adm m) 0).slots t 3).cast nbuf0_3))
    (Memref.whole cc0_scratch0) (Memref.isWhole_whole _) ((adm (F := F) m 0).1 0) ((adm (F := F) m 0).1 1) hok.cols hok.rows
    (iblk m c 0 t) (iblk m c 1 t) (iblk m c 2 t)
  iintro ⟨⟨⟨HS, HP⟩, HT1, HT2⟩, Ho, ⟨%d0, H0⟩, ⟨%d1, H1⟩, ⟨%d2, H2⟩, ⟨%d3, H3⟩⟩
  iapply (wp_wand_r (Fr := Idealize.ShloMosaic.frame))
  isplitl [HS HT1 HT2 H0 H1 H2 H3]
  · iapply h
    isplitl [HT1]; · iexact HT1
    isplitl [HT2]; · iexact HT2
    isplitl [H0]; · iexact H0
    isplitl [H1]; · iexact H1
    isplitl [H2]; · iexact H2
    isplitl [H3]; · iexists _; iexact H3
    iexact HS
  iintro %_ ⟨HT1, HT2, H0, H1, H2, H3, HS⟩
  isplitl [HS HP HT1 HT2]
  · isplitl [HS HP]
    · isplitl [HS]
      · iexact HS
      · iexact HP
    · isplitl [HT1]; · iexact HT1
      iexact HT2
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  have hrow : defs₀ (F := F) .tc (Pipeline.pin (pcfgs (F := F)) (adm m) 0).body ((Pipeline.pin (pcfgs (F := F)) (adm m) 0).bodyArgs t ((Pipeline.pin (pcfgs (F := F)) (adm m) 0).slots t)) = bodyAt0 m t := by
    unfold defs₀; rw [Defs.onTc_tc]
  rw [hrow]
  exact triple_restated (sound_body m hok c t) rfl .rfl fun _ => .rfl

/-! ## The run and the frame -/

set_option backward.isDefEq.respectTransparency.types false in
set_option maxHeartbeats 800000 in
/-- The launch: every array of the region ends at what the proof data say, every other buffer as the host lines leave it, and
    every semaphore counter at zero. -/
theorem run_main : θ_run defs (onTc (τ := τ) (main (F := F))) (s₀ m ρ) (fun r => (Pipeline.FramePost (Pipeline.pin (pcfgs (F := F)) (adm m)) (dats m) 0 (Pipeline.afterTail (pcfgs (F := F)) (adm m) (dats m) 0 (V0 m) [hostOps1])) r ∧ r.2.sem = fun _ => 0) :=
  Pipeline.θ_run_frameP_around (Q' := _) (pcfgs (F := F)) (adm m) (dats m) (0 : Fin 1) launch0 defs₀ Variants.none m ρ main
    (hbody := fun c => (body_obligation m hok c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := fun c k => by rw [Subsingleton.elim c 0]; rfl) (hΦ := fun _ _ => rfl)

/-- The arguments end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hh => ⟨fun c => ⟨(((hh.1 c).2 main_arg0 (Pipeline.mem_restRefs_of main_arg0 (by decide) (by exact (by decide : ∀ w, Pipeline.arrRef spec0 w ≠ main_arg0)))).trans (W_main_arg0 m (adm m) (dats m) c)),
      (((hh.1 c).2 main_arg1 (Pipeline.mem_restRefs_of main_arg1 (by decide) (by exact (by decide : ∀ w, Pipeline.arrRef spec0 w ≠ main_arg1)))).trans (W_main_arg1 m (adm m) (dats m) c)),
      (((hh.1 c).2 main_arg2 (Pipeline.mem_restRefs_of main_arg2 (by decide) (by exact (by decide : ∀ w, Pipeline.arrRef spec0 w ≠ main_arg2)))).trans (W_main_arg2 m (adm m) (dats m) c)),
      ((hh.1 c).1 2).trans (((dats m 0 c).arrAt_in 2 rfl _).trans ((A_eq m c 2).trans (V_main_arg3 m c))),
      ((hh.1 c).1 0).trans (((dats m 0 c).arrAt_in 0 rfl _).trans ((A_eq m c 0).trans (V_main_arg4 m c)))⟩, hh.2⟩) (run_main m ρ hok)

end Cert.Proof.Kernel
-- ==== Proof.lean ====
module

public import proofs.«01_k».proof.Defs
public import proofs.«01_k».proof.Proof.Words
public import proofs.«01_k».proof.Proof.Sparse
public import proofs.«01_k».proof.Proof.SparseFacts
public import proofs.«01_k».proof.Proof.Equation
public import proofs.«01_k».proof.Proof.Kernel.Frame
public import proofs.«01_k».proof.Proof.KernelIdeal.Frame
public import proofs.«01_k».proof.Proof.Gen.ReferenceIdeal
public import proofs.«01_k».proof.Proof.Gen.ReferenceIdeal.Frame
public import proofs.«01_k».proof.Proof.Gen.Pre_words_in_range
public import Idealize.ShloMosaic.Adequacy
public import Idealize.ShloMosaic.Init

@[expose] public section

noncomputable section

namespace Cert.Proof

open Idealize.ShloMosaic Idealize.SL.Sem

/-- From equal arguments whose tables describe a block-sparse matrix, the kernel and the reference end with the same result. -/
theorem algebraic : Cert.algebraic_KernelIdeal_ReferenceIdeal_pre_block_sparse (hKernelIdeal := Cert.KernelIdeal.Gen.facts)
    (hReferenceIdeal := Cert.ReferenceIdeal.Gen.facts) (hPre_block_sparse := Cert.Pre_block_sparse.facts) := fun m g m' g' h ha => by
  have hs : ∀ c, Sparse _ _ := fun c => sparse_of (h c).1 (h c).2.1 (h c).2.2.1 (h c).2.2.2
  refine ⟨_, KernelIdeal.run m g (KernelIdeal.tablesOK m (hs 0).toInRange), ?_⟩
  refine (θ_run _ _ _).mono (fun r hr c => ?_) (Reference.run m' g')
  obtain ⟨h0, h1, h2, h3, h4⟩ := ha c
  refine ⟨(hr c).1.trans (Eq.trans ?_ (result_eq (hs c)).symm), (hr c).2⟩
  exact congr (congr (congr (congr (congrArg Reference.result h0) h1) h2) h3) h4

/-- Everything the certificate claims. -/
theorem claim : Cert.Claim :=
  ⟨Cert.Kernel.Gen.facts, Cert.KernelIdeal.Gen.facts, Cert.ReferenceIdeal.Gen.facts, Cert.Pre_words_in_range.Gen.facts, Cert.Pre_block_sparse.facts,
    fun m g h => Kernel.frame m g (Kernel.tablesOK m (inRange_of (h 0).1 (h 0).2)),
    fun m g h => KernelIdeal.frame m g (KernelIdeal.tablesOK m (inRange_of (h 0).1 (h 0).2)),
    fun m g h => KernelIdeal.frame m g (KernelIdeal.tablesOK m (sparse_of (h 0).1 (h 0).2.1 (h 0).2.2.1 (h 0).2.2.2).toInRange),
    fun m g _ => Cert.ReferenceIdeal.Gen.frame m g,
    fun m g _ => Cert.ReferenceIdeal.Gen.frame m g,
    trivial,
    algebraic⟩

end Cert.Proof
